-- ==== Defs.lean ====
def Pre_KernelIdeal [hPre_winner_in_whole_tile : Cert.Pre_winner_in_whole_tile.Facts] (m : (ℓ : Loc Cert.KernelIdeal.nD Cert.KernelIdeal.τ Cert.KernelIdeal.sig) → Buf (Elt Ideal) ℓ) : Prop :=
  ∀ c : Dev Cert.KernelIdeal.nD,
    (Cert.Pre_winner_in_whole_tile.fn (F := Ideal) (m ((c.tc : Thread Cert.KernelIdeal.nD Cert.KernelIdeal.τ).loc Cert.KernelIdeal.main_arg0))).1 = (fun _ => 1#1)
    ∧ (Cert.Pre_winner_in_whole_tile.fn (F := Ideal) (m ((c.tc : Thread Cert.KernelIdeal.nD Cert.KernelIdeal.τ).loc Cert.KernelIdeal.main_arg0))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_winner_in_whole_tile [hPre_winner_in_whole_tile : Cert.Pre_winner_in_whole_tile.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_winner_in_whole_tile.fn (F := Ideal) (m ((c.tc : Thread Cert.ReferenceIdeal.nD Cert.ReferenceIdeal.τ).loc Cert.ReferenceIdeal.main_arg0))).1 = (fun _ => 1#1)
    ∧ (Cert.Pre_winner_in_whole_tile.fn (F := Ideal) (m ((c.tc : Thread Cert.ReferenceIdeal.nD Cert.ReferenceIdeal.τ).loc Cert.ReferenceIdeal.main_arg0))).2 = (fun _ => 1#1)

def quiescent_KernelIdeal [hKernelIdeal : Cert.KernelIdeal.Facts] [hPre_winner_in_whole_tile : Cert.Pre_winner_in_whole_tile.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_winner_in_whole_tile [hReferenceIdeal : Cert.ReferenceIdeal.Facts] [hPre_winner_in_whole_tile : Cert.Pre_winner_in_whole_tile.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_winner_in_whole_tile m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def algebraic_KernelIdeal_ReferenceIdeal [hKernelIdeal : Cert.KernelIdeal.Facts] [hReferenceIdeal : Cert.ReferenceIdeal.Facts] [hPre_winner_in_whole_tile : Cert.Pre_winner_in_whole_tile.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernelIdeal : Cert.KernelIdeal.Facts) (hReferenceIdeal : Cert.ReferenceIdeal.Facts) (hPre_winner_in_whole_tile : Cert.Pre_winner_in_whole_tile.Facts),
    quiescent_KernelIdeal (hKernelIdeal := hKernelIdeal) (hPre_winner_in_whole_tile := hPre_winner_in_whole_tile)
    ∧ quiescent_ReferenceIdeal (hReferenceIdeal := hReferenceIdeal)
    ∧ quiescent_ReferenceIdeal_pre_winner_in_whole_tile (hReferenceIdeal := hReferenceIdeal) (hPre_winner_in_whole_tile := hPre_winner_in_whole_tile)
    ∧ algebraic_KernelIdeal_ReferenceIdeal (hKernelIdeal := hKernelIdeal) (hReferenceIdeal := hReferenceIdeal) (hPre_winner_in_whole_tile := hPre_winner_in_whole_tile)
-- ==== Pre_winner_in_whole_tile.lean ====
abbrev S128x100000 : Shape := ⟨2, ![128, 100000]⟩
abbrev S_ : Shape := ⟨0, ![]⟩
abbrev S1 : Shape := ⟨1, ![1]⟩
abbrev S2 : Shape := ⟨1, ![2]⟩
abbrev S1x1 : Shape := ⟨2, ![1, 1]⟩
abbrev S128 : Shape := ⟨1, ![128]⟩
abbrev S128x1 : Shape := ⟨2, ![128, 1]⟩

class Facts : Prop where
  bcast_S_S128x100000 : S_.BroadcastsInDim S128x100000 (![] : Fin 0 → Fin S128x100000.rank)
  bcast_S_S1 : S_.BroadcastsInDim S1 (![] : Fin 0 → Fin S1.rank)
  concatenates_S1_S1_S2_d0 : Shape.Concatenates [S1, S1] S2 0
  bcast_S_S1x1 : S_.BroadcastsInDim S1x1 (![] : Fin 0 → Fin S1x1.rank)
  slices_S2_S1_0 : S2.Slices ![0] S1
  shapeCasts_S1_S_ : S1.ShapeCasts S_
  slices_S2_S1_1 : S2.Slices ![1] S1
  natLt_32_64 : 32 < 64
  bcast_S1x1_S128x100000_0_1 : S1x1.BroadcastsInDim S128x100000 (![0, 1] : Fin 2 → Fin S128x100000.rank)
  reducesTo_S128x100000_S128_d1 : S128x100000.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S128x1_S128x100000_0_1 : S128x1.BroadcastsInDim S128x100000 (![0, 1] : Fin 2 → Fin S128x100000.rank)

variable [Facts]

variable {F : FTy → Type} [FloatOps F]
def reducer_argmax_f32_i32 : F .f32 × BitVec 32 → F .f32 × BitVec 32 → F .f32 × BitVec 32 :=
  fun a b =>
    let v2 := FloatOps.cmpf .ogt a.1 b.1
    let v3 := FloatOps.cmpf .une a.1 a.1
    let v4 := IntOp.ori v2 v3
    let v5 := FloatOps.cmpf .oeq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)

def fn_threefry2x32_part9 {F : FTy → Type} [FloatOps F] (arg0 : IVec S_ 32) (v163 : IVec S128x100000 32) (v169 : IVec S128x100000 32) (v170 : IVec S128x100000 32) : IVec S128x100000 32 × IVec S128x100000 32 :=
  let v171 : IVec S128x100000 32 := addi v163 v170
  let v172 : IVec S128x100000 32 := broadcastInDim S128x100000 ![] bcast_S_S128x100000 arg0
  let v173 : IVec S128x100000 32 := addi v169 v172
  let c_44 : IVec S_ 32 := constantI S_ 32 5#32
  let v174 : IVec S128x100000 32 := broadcastInDim S128x100000 ![] bcast_S_S128x100000 c_44
  let v175 : IVec S128x100000 32 := addi v173 v174
  (v171, v175)

def fn_threefry2x32_part8 {F : FTy → Type} [FloatOps F] (arg0 : IVec S_ 32) (v1 : IVec S_ 32) (v148 : IVec S128x100000 32) (v149 : IVec S128x100000 32) (v151 : IVec S128x100000 32) : IVec S128x100000 32 × IVec S128x100000 32 :=
  let c_39 : IVec S_ 32 := constantI S_ 32 17#32
  let v152 : IVec S128x100000 32 := broadcastInDim S128x100000 ![] bcast_S_S128x100000 c_39
  let v153 : IVec S128x100000 32 := Host.shrui v148 v152
  let v154 : IVec S128x100000 32 := ori v151 v153
  let v155 : IVec S128x100000 32 := xori v149 v154
  let v156 : IVec S128x100000 32 := addi v149 v155
  let c_40 : IVec S_ 32 := constantI S_ 32 26#32
  let v157 : IVec S128x100000 32 := broadcastInDim S128x100000 ![] bcast_S_S128x100000 c_40
  let v158 : IVec S128x100000 32 := Host.shli v155 v157
  let c_41 : IVec S_ 32 := constantI S_ 32 6#32
  let v159 : IVec S128x100000 32 := broadcastInDim S128x100000 ![] bcast_S_S128x100000 c_41
  let v160 : IVec S128x100000 32 := Host.shrui v155 v159
  let v161 : IVec S128x100000 32 := ori v158 v160
  let v162 : IVec S128x100000 32 := xori v156 v161
  let v163 : IVec S128x100000 32 := addi v156 v162
  let c_42 : IVec S_ 32 := constantI S_ 32 6#32
  let v164 : IVec S128x100000 32 := broadcastInDim S128x100000 ![] bcast_S_S128x100000 c_42
  let v165 : IVec S128x100000 32 := Host.shli v162 v164
  let c_43 : IVec S_ 32 := constantI S_ 32 26#32
  let v166 : IVec S128x100000 32 := broadcastInDim S128x100000 ![] bcast_S_S128x100000 c_43
  let v167 : IVec S128x100000 32 := Host.shrui v162 v166
  let v168 : IVec S128x100000 32 := ori v165 v167
  let v169 : IVec S128x100000 32 := xori v163 v168
  let v170 : IVec S128x100000 32 := broadcastInDim S128x100000 ![] bcast_S_S128x100000 v1
  fn_threefry2x32_part9 (F := F) arg0 v163 v169 v170

def fn_threefry2x32_part7 {F : FTy → Type} [FloatOps F] (arg0 : IVec S_ 32) (arg1 : IVec S_ 32) (v1 : IVec S_ 32) (v128 : IVec S128x100000 32) (v129 : IVec S128x100000 32) (v131 : IVec S128x100000 32) (c_34 : IVec S_ 32) : IVec S128x100000 32 × IVec S128x100000 32 :=
  let v132 : IVec S128x100000 32 := broadcastInDim S128x100000 ![] bcast_S_S128x100000 c_34
  let v133 : IVec S128x100000 32 := Host.shrui v128 v132
  let v134 : IVec S128x100000 32 := ori v131 v133
  let v135 : IVec S128x100000 32 := xori v129 v134
  let v136 : IVec S128x100000 32 := broadcastInDim S128x100000 ![] bcast_S_S128x100000 arg1
  let v137 : IVec S128x100000 32 := addi v129 v136
  let v138 : IVec S128x100000 32 := broadcastInDim S128x100000 ![] bcast_S_S128x100000 v1
  let v139 : IVec S128x100000 32 := addi v135 v138
  let c_35 : IVec S_ 32 := constantI S_ 32 4#32
  let v140 : IVec S128x100000 32 := broadcastInDim S128x100000 ![] bcast_S_S128x100000 c_35
  let v141 : IVec S128x100000 32 := addi v139 v140
  let v142 : IVec S128x100000 32 := addi v137 v141
  let c_36 : IVec S_ 32 := constantI S_ 32 13#32
  let v143 : IVec S128x100000 32 := broadcastInDim S128x100000 ![] bcast_S_S128x100000 c_36
  let v144 : IVec S128x100000 32 := Host.shli v141 v143
  let c_37 : IVec S_ 32 := constantI S_ 32 19#32
  let v145 : IVec S128x100000 32 := broadcastInDim S128x100000 ![] bcast_S_S128x100000 c_37
  let v146 : IVec S128x100000 32 := Host.shrui v141 v145
  let v147 : IVec S128x100000 32 := ori v144 v146
  let v148 : IVec S128x100000 32 := xori v142 v147
  let v149 : IVec S128x100000 32 := addi v142 v148
  let c_38 : IVec S_ 32 := constantI S_ 32 15#32
  let v150 : IVec S128x100000 32 := broadcastInDim S128x100000 ![] bcast_S_S128x100000 c_38
  let v151 : IVec S128x100000 32 := Host.shli v148 v150
  fn_threefry2x32_part8 (F := F) arg0 v1 v148 v149 v151

def fn_threefry2x32_part6 {F : FTy → Type} [FloatOps F] (arg0 : IVec S_ 32) (arg1 : IVec S_ 32) (v1 : IVec S_ 32) (v108 : IVec S128x100000 32) (v113 : IVec S128x100000 32) : IVec S128x100000 32 × IVec S128x100000 32 :=
  let v114 : IVec S128x100000 32 := xori v108 v113
  let v115 : IVec S128x100000 32 := addi v108 v114
  let c_29 : IVec S_ 32 := constantI S_ 32 29#32
  let v116 : IVec S128x100000 32 := broadcastInDim S128x100000 ![] bcast_S_S128x100000 c_29
  let v117 : IVec S128x100000 32 := Host.shli v114 v116
  let c_30 : IVec S_ 32 := constantI S_ 32 3#32
  let v118 : IVec S128x100000 32 := broadcastInDim S128x100000 ![] bcast_S_S128x100000 c_30
  let v119 : IVec S128x100000 32 := Host.shrui v114 v118
  let v120 : IVec S128x100000 32 := ori v117 v119
  let v121 : IVec S128x100000 32 := xori v115 v120
  let v122 : IVec S128x100000 32 := addi v115 v121
  let c_31 : IVec S_ 32 := constantI S_ 32 16#32
  let v123 : IVec S128x100000 32 := broadcastInDim S128x100000 ![] bcast_S_S128x100000 c_31
  let v124 : IVec S128x100000 32 := Host.shli v121 v123
  let c_32 : IVec S_ 32 := constantI S_ 32 16#32
  let v125 : IVec S128x100000 32 := broadcastInDim S128x100000 ![] bcast_S_S128x100000 c_32
  let v126 : IVec S128x100000 32 := Host.shrui v121 v125
  let v127 : IVec S128x100000 32 := ori v124 v126
  let v128 : IVec S128x100000 32 := xori v122 v127
  let v129 : IVec S128x100000 32 := addi v122 v128
  let c_33 : IVec S_ 32 := constantI S_ 32 24#32
  let v130 : IVec S128x100000 32 := broadcastInDim S128x100000 ![] bcast_S_S128x100000 c_33
  let v131 : IVec S128x100000 32 := Host.shli v128 v130
  let c_34 : IVec S_ 32 := constantI S_ 32 8#32
  fn_threefry2x32_part7 (F := F) arg0 arg1 v1 v128 v129 v131 c_34

def fn_threefry2x32_part5 {F : FTy → Type} [FloatOps F] (arg0 : IVec S_ 32) (arg1 : IVec S_ 32) (v1 : IVec S_ 32) (v88 : IVec S128x100000 32) (v94 : IVec S128x100000 32) : IVec S128x100000 32 × IVec S128x100000 32 :=
  let v95 : IVec S128x100000 32 := addi v88 v94
  let c_24 : IVec S_ 32 := constantI S_ 32 6#32
  let v96 : IVec S128x100000 32 := broadcastInDim S128x100000 ![] bcast_S_S128x100000 c_24
  let v97 : IVec S128x100000 32 := Host.shli v94 v96
  let c_25 : IVec S_ 32 := constantI S_ 32 26#32
  let v98 : IVec S128x100000 32 := broadcastInDim S128x100000 ![] bcast_S_S128x100000 c_25
  let v99 : IVec S128x100000 32 := Host.shrui v94 v98
  let v100 : IVec S128x100000 32 := ori v97 v99
  let v101 : IVec S128x100000 32 := xori v95 v100
  let v102 : IVec S128x100000 32 := broadcastInDim S128x100000 ![] bcast_S_S128x100000 arg0
  let v103 : IVec S128x100000 32 := addi v95 v102
  let v104 : IVec S128x100000 32 := broadcastInDim S128x100000 ![] bcast_S_S128x100000 arg1
  let v105 : IVec S128x100000 32 := addi v101 v104
  let c_26 : IVec S_ 32 := constantI S_ 32 3#32
  let v106 : IVec S128x100000 32 := broadcastInDim S128x100000 ![] bcast_S_S128x100000 c_26
  let v107 : IVec S128x100000 32 := addi v105 v106
  let v108 : IVec S128x100000 32 := addi v103 v107
  let c_27 : IVec S_ 32 := constantI S_ 32 17#32
  let v109 : IVec S128x100000 32 := broadcastInDim S128x100000 ![] bcast_S_S128x100000 c_27
  let v110 : IVec S128x100000 32 := Host.shli v107 v109
  let c_28 : IVec S_ 32 := constantI S_ 32 15#32
  let v111 : IVec S128x100000 32 := broadcastInDim S128x100000 ![] bcast_S_S128x100000 c_28
  let v112 : IVec S128x100000 32 := Host.shrui v107 v111
  let v113 : IVec S128x100000 32 := ori v110 v112
  fn_threefry2x32_part6 (F := F) arg0 arg1 v1 v108 v113

def fn_threefry2x32_part4 {F : FTy → Type} [FloatOps F] (arg0 : IVec S_ 32) (arg1 : IVec S_ 32) (v1 : IVec S_ 32) (v73 : IVec S128x100000 32) (v74 : IVec S128x100000 32) (v75 : IVec S128x100000 32) : IVec S128x100000 32 × IVec S128x100000 32 :=
  let v76 : IVec S128x100000 32 := Host.shli v73 v75
  let c_19 : IVec S_ 32 := constantI S_ 32 19#32
  let v77 : IVec S128x100000 32 := broadcastInDim S128x100000 ![] bcast_S_S128x100000 c_19
  let v78 : IVec S128x100000 32 := Host.shrui v73 v77
  let v79 : IVec S128x100000 32 := ori v76 v78
  let v80 : IVec S128x100000 32 := xori v74 v79
  let v81 : IVec S128x100000 32 := addi v74 v80
  let c_20 : IVec S_ 32 := constantI S_ 32 15#32
  let v82 : IVec S128x100000 32 := broadcastInDim S128x100000 ![] bcast_S_S128x100000 c_20
  let v83 : IVec S128x100000 32 := Host.shli v80 v82
  let c_21 : IVec S_ 32 := constantI S_ 32 17#32
  let v84 : IVec S128x100000 32 := broadcastInDim S128x100000 ![] bcast_S_S128x100000 c_21
  let v85 : IVec S128x100000 32 := Host.shrui v80 v84
  let v86 : IVec S128x100000 32 := ori v83 v85
  let v87 : IVec S128x100000 32 := xori v81 v86
  let v88 : IVec S128x100000 32 := addi v81 v87
  let c_22 : IVec S_ 32 := constantI S_ 32 26#32
  let v89 : IVec S128x100000 32 := broadcastInDim S128x100000 ![] bcast_S_S128x100000 c_22
  let v90 : IVec S128x100000 32 := Host.shli v87 v89
  let c_23 : IVec S_ 32 := constantI S_ 32 6#32
  let v91 : IVec S128x100000 32 := broadcastInDim S128x100000 ![] bcast_S_S128x100000 c_23
  let v92 : IVec S128x100000 32 := Host.shrui v87 v91
  let v93 : IVec S128x100000 32 := ori v90 v92
  let v94 : IVec S128x100000 32 := xori v88 v93
  fn_threefry2x32_part5 (F := F) arg0 arg1 v1 v88 v94

def fn_threefry2x32_part3 {F : FTy → Type} [FloatOps F] (arg0 : IVec S_ 32) (arg1 : IVec S_ 32) (v1 : IVec S_ 32) (v53 : IVec S128x100000 32) (v54 : IVec S128x100000 32) (v56 : IVec S128x100000 32) : IVec S128x100000 32 × IVec S128x100000 32 :=
  let c_14 : IVec S_ 32 := constantI S_ 32 16#32
  let v57 : IVec S128x100000 32 := broadcastInDim S128x100000 ![] bcast_S_S128x100000 c_14
  let v58 : IVec S128x100000 32 := Host.shrui v53 v57
  let v59 : IVec S128x100000 32 := ori v56 v58
  let v60 : IVec S128x100000 32 := xori v54 v59
  let v61 : IVec S128x100000 32 := addi v54 v60
  let c_15 : IVec S_ 32 := constantI S_ 32 24#32
  let v62 : IVec S128x100000 32 := broadcastInDim S128x100000 ![] bcast_S_S128x100000 c_15
  let v63 : IVec S128x100000 32 := Host.shli v60 v62
  let c_16 : IVec S_ 32 := constantI S_ 32 8#32
  let v64 : IVec S128x100000 32 := broadcastInDim S128x100000 ![] bcast_S_S128x100000 c_16
  let v65 : IVec S128x100000 32 := Host.shrui v60 v64
  let v66 : IVec S128x100000 32 := ori v63 v65
  let v67 : IVec S128x100000 32 := xori v61 v66
  let v68 : IVec S128x100000 32 := broadcastInDim S128x100000 ![] bcast_S_S128x100000 v1
  let v69 : IVec S128x100000 32 := addi v61 v68
  let v70 : IVec S128x100000 32 := broadcastInDim S128x100000 ![] bcast_S_S128x100000 arg0
  let v71 : IVec S128x100000 32 := addi v67 v70
  let c_17 : IVec S_ 32 := constantI S_ 32 2#32
  let v72 : IVec S128x100000 32 := broadcastInDim S128x100000 ![] bcast_S_S128x100000 c_17
  let v73 : IVec S128x100000 32 := addi v71 v72
  let v74 : IVec S128x100000 32 := addi v69 v73
  let c_18 : IVec S_ 32 := constantI S_ 32 13#32
  let v75 : IVec S128x100000 32 := broadcastInDim S128x100000 ![] bcast_S_S128x100000 c_18
  fn_threefry2x32_part4 (F := F) arg0 arg1 v1 v73 v74 v75

def fn_threefry2x32_part2 {F : FTy → Type} [FloatOps F] (arg0 : IVec S_ 32) (arg1 : IVec S_ 32) (v1 : IVec S_ 32) (v35 : IVec S128x100000 32) (v37 : IVec S128x100000 32) (c_8 : IVec S_ 32) : IVec S128x100000 32 × IVec S128x100000 32 :=
  let v38 : IVec S128x100000 32 := broadcastInDim S128x100000 ![] bcast_S_S128x100000 c_8
  let v39 : IVec S128x100000 32 := addi v37 v38
  let v40 : IVec S128x100000 32 := addi v35 v39
  let c_9 : IVec S_ 32 := constantI S_ 32 17#32
  let v41 : IVec S128x100000 32 := broadcastInDim S128x100000 ![] bcast_S_S128x100000 c_9
  let v42 : IVec S128x100000 32 := Host.shli v39 v41
  let c_10 : IVec S_ 32 := constantI S_ 32 15#32
  let v43 : IVec S128x100000 32 := broadcastInDim S128x100000 ![] bcast_S_S128x100000 c_10
  let v44 : IVec S128x100000 32 := Host.shrui v39 v43
  let v45 : IVec S128x100000 32 := ori v42 v44
  let v46 : IVec S128x100000 32 := xori v40 v45
  let v47 : IVec S128x100000 32 := addi v40 v46
  let c_11 : IVec S_ 32 := constantI S_ 32 29#32
  let v48 : IVec S128x100000 32 := broadcastInDim S128x100000 ![] bcast_S_S128x100000 c_11
  let v49 : IVec S128x100000 32 := Host.shli v46 v48
  let c_12 : IVec S_ 32 := constantI S_ 32 3#32
  let v50 : IVec S128x100000 32 := broadcastInDim S128x100000 ![] bcast_S_S128x100000 c_12
  let v51 : IVec S128x100000 32 := Host.shrui v46 v50
  let v52 : IVec S128x100000 32 := ori v49 v51
  let v53 : IVec S128x100000 32 := xori v47 v52
  let v54 : IVec S128x100000 32 := addi v47 v53
  let c_13 : IVec S_ 32 := constantI S_ 32 16#32
  let v55 : IVec S128x100000 32 := broadcastInDim S128x100000 ![] bcast_S_S128x100000 c_13
  let v56 : IVec S128x100000 32 := Host.shli v53 v55
  fn_threefry2x32_part3 (F := F) arg0 arg1 v1 v53 v54 v56

def fn_threefry2x32_part1 {F : FTy → Type} [FloatOps F] (arg0 : IVec S_ 32) (arg1 : IVec S_ 32) (v1 : IVec S_ 32) (v13 : IVec S128x100000 32) (v18 : IVec S128x100000 32) : IVec S128x100000 32 × IVec S128x100000 32 :=
  let v19 : IVec S128x100000 32 := xori v13 v18
  let v20 : IVec S128x100000 32 := addi v13 v19
  let c_4 : IVec S_ 32 := constantI S_ 32 26#32
  let v21 : IVec S128x100000 32 := broadcastInDim S128x100000 ![] bcast_S_S128x100000 c_4
  let v22 : IVec S128x100000 32 := Host.shli v19 v21
  let c_5 : IVec S_ 32 := constantI S_ 32 6#32
  let v23 : IVec S128x100000 32 := broadcastInDim S128x100000 ![] bcast_S_S128x100000 c_5
  let v24 : IVec S128x100000 32 := Host.shrui v19 v23
  let v25 : IVec S128x100000 32 := ori v22 v24
  let v26 : IVec S128x100000 32 := xori v20 v25
  let v27 : IVec S128x100000 32 := addi v20 v26
  let c_6 : IVec S_ 32 := constantI S_ 32 6#32
  let v28 : IVec S128x100000 32 := broadcastInDim S128x100000 ![] bcast_S_S128x100000 c_6
  let v29 : IVec S128x100000 32 := Host.shli v26 v28
  let c_7 : IVec S_ 32 := constantI S_ 32 26#32
  let v30 : IVec S128x100000 32 := broadcastInDim S128x100000 ![] bcast_S_S128x100000 c_7
  let v31 : IVec S128x100000 32 := Host.shrui v26 v30
  let v32 : IVec S128x100000 32 := ori v29 v31
  let v33 : IVec S128x100000 32 := xori v27 v32
  let v34 : IVec S128x100000 32 := broadcastInDim S128x100000 ![] bcast_S_S128x100000 arg1
  let v35 : IVec S128x100000 32 := addi v27 v34
  let v36 : IVec S128x100000 32 := broadcastInDim S128x100000 ![] bcast_S_S128x100000 v1
  let v37 : IVec S128x100000 32 := addi v33 v36
  let c_8 : IVec S_ 32 := constantI S_ 32 1#32
  fn_threefry2x32_part2 (F := F) arg0 arg1 v1 v35 v37 c_8

def fn_threefry2x32 {F : FTy → Type} [FloatOps F] (arg0 : IVec S_ 32) (arg1 : IVec S_ 32) (arg2 : IVec S128x100000 32) (arg3 : IVec S128x100000 32) : IVec S128x100000 32 × IVec S128x100000 32 :=
  let v0 : IVec S_ 32 := xori arg0 arg1
  let c : IVec S_ 32 := constantI S_ 32 466688986#32
  let v1 : IVec S_ 32 := xori v0 c
  let v2 : IVec S128x100000 32 := broadcastInDim S128x100000 ![] bcast_S_S128x100000 arg0
  let v3 : IVec S128x100000 32 := addi arg2 v2
  let v4 : IVec S128x100000 32 := broadcastInDim S128x100000 ![] bcast_S_S128x100000 arg1
  let v5 : IVec S128x100000 32 := addi arg3 v4
  let v6 : IVec S128x100000 32 := addi v3 v5
  let c_0 : IVec S_ 32 := constantI S_ 32 13#32
  let v7 : IVec S128x100000 32 := broadcastInDim S128x100000 ![] bcast_S_S128x100000 c_0
  let v8 : IVec S128x100000 32 := Host.shli v5 v7
  let c_1 : IVec S_ 32 := constantI S_ 32 19#32
  let v9 : IVec S128x100000 32 := broadcastInDim S128x100000 ![] bcast_S_S128x100000 c_1
  let v10 : IVec S128x100000 32 := Host.shrui v5 v9
  let v11 : IVec S128x100000 32 := ori v8 v10
  let v12 : IVec S128x100000 32 := xori v6 v11
  let v13 : IVec S128x100000 32 := addi v6 v12
  let c_2 : IVec S_ 32 := constantI S_ 32 15#32
  let v14 : IVec S128x100000 32 := broadcastInDim S128x100000 ![] bcast_S_S128x100000 c_2
  let v15 : IVec S128x100000 32 := Host.shli v12 v14
  let c_3 : IVec S_ 32 := constantI S_ 32 17#32
  let v16 : IVec S128x100000 32 := broadcastInDim S128x100000 ![] bcast_S_S128x100000 c_3
  let v17 : IVec S128x100000 32 := Host.shrui v12 v16
  let v18 : IVec S128x100000 32 := ori v15 v17
  fn_threefry2x32_part1 (F := F) arg0 arg1 v1 v13 v18

def fn_uniform_part1 {F : FTy → Type} [FloatOps F] (v2 : FVec F S1x1 .f32) (v3 : FVec F S1x1 .f32) (v19_0 : IVec S128x100000 32) (v19_1 : IVec S128x100000 32) : FVec F S128x100000 .f32 :=
  let v20 : IVec S128x100000 32 := xori v19_0 v19_1
  let c_2 : IVec S_ 32 := constantI S_ 32 9#32
  let v21 : IVec S128x100000 32 := broadcastInDim S128x100000 ![] bcast_S_S128x100000 c_2
  let v22 : IVec S128x100000 32 := Host.shrui v20 v21
  let c_3 : IVec S_ 32 := constantI S_ 32 1065353216#32
  let v23 : IVec S128x100000 32 := broadcastInDim S128x100000 ![] bcast_S_S128x100000 c_3
  let v24 : IVec S128x100000 32 := ori v22 v23
  let v25 : FVec F S128x100000 .f32 := bitcastToFloat .f32 v24
  let cst : FVec F S_ .f32 := constant S_ .f32 0x3F800000#32
  let v26 : FVec F S128x100000 .f32 := broadcastInDim S128x100000 ![] bcast_S_S128x100000 cst
  let v27 : FVec F S128x100000 .f32 := subf v25 v26
  let v28 : FVec F S1x1 .f32 := subf v3 v2
  let v29 : FVec F S128x100000 .f32 := broadcastInDim S128x100000 ![0, 1] bcast_S1x1_S128x100000_0_1 v28
  let v30 : FVec F S128x100000 .f32 := mulf v27 v29
  let v31 : FVec F S128x100000 .f32 := broadcastInDim S128x100000 ![0, 1] bcast_S1x1_S128x100000_0_1 v2
  let v32 : FVec F S128x100000 .f32 := addf v30 v31
  let v33 : FVec F S128x100000 .f32 := broadcastInDim S128x100000 ![0, 1] bcast_S1x1_S128x100000_0_1 v2
  let v34 : FVec F S128x100000 .f32 := maximumf v33 v32
  v34

def fn_uniform {F : FTy → Type} [FloatOps F] (arg0 : IVec S2 32) (arg1 : FVec F S_ .f32) (arg2 : FVec F S_ .f32) : FVec F S128x100000 .f32 :=
  let v0 : FVec F S_ .f32 := id arg1
  let v1 : FVec F S_ .f32 := id arg2
  let v2 : FVec F S1x1 .f32 := broadcastInDim S1x1 ![] bcast_S_S1x1 v0
  let v3 : FVec F S1x1 .f32 := broadcastInDim S1x1 ![] bcast_S_S1x1 v1
  let v4 : IVec S1 32 := (extractStridedSlice S1 ![0] · slices_S2_S1_0) arg0
  let v5 : IVec S_ 32 := shapeCast S_ v4 shapeCasts_S1_S_
  let v6 : IVec S1 32 := (extractStridedSlice S1 ![1] · slices_S2_S1_1) arg0
  let v7 : IVec S_ 32 := shapeCast S_ v6 shapeCasts_S1_S_
  let v8 : IVec S128x100000 64 := iotaInDim S128x100000 64 0
  let v9 : IVec S128x100000 64 := iotaInDim S128x100000 64 1
  let c : IVec S_ 64 := constantI S_ 64 100000#64
  let v10 : IVec S128x100000 64 := broadcastInDim S128x100000 ![] bcast_S_S128x100000 c
  let v11 : IVec S128x100000 64 := muli v10 v8
  let c_0 : IVec S_ 64 := constantI S_ 64 1#64
  let v12 : IVec S128x100000 64 := broadcastInDim S128x100000 ![] bcast_S_S128x100000 c_0
  let v13 : IVec S128x100000 64 := muli v12 v9
  let v14 : IVec S128x100000 64 := addi v11 v13
  let c_1 : IVec S_ 64 := constantI S_ 64 32#64
  let v15 : IVec S128x100000 64 := broadcastInDim S128x100000 ![] bcast_S_S128x100000 c_1
  let v16 : IVec S128x100000 64 := Host.shrui v14 v15
  let v17 : IVec S128x100000 32 := (trunci 32 · natLt_32_64) v14
  let v18 : IVec S128x100000 32 := (trunci 32 · natLt_32_64) v16
  let v19_0 : IVec S128x100000 32 := (fn_threefry2x32 (F := F) v5 v7 v18 v17).1
  let v19_1 : IVec S128x100000 32 := (fn_threefry2x32 (F := F) v5 v7 v18 v17).2
  fn_uniform_part1 (F := F) v2 v3 v19_0 v19_1

def fn_argmax {F : FTy → Type} [FloatOps F] (arg0 : FVec F S128x100000 .f32) : IVec S128 32 :=
  let v0 : IVec S128x100000 32 := iotaInDim S128x100000 32 1
  let cst : FVec F S_ .f32 := constant S_ .f32 0xFF800000#32
  let c : IVec S_ 32 := constantI S_ 32 0#32
  let v1_0 : FVec F S128 .f32 := (fun x y u v j => (Host.argReduce reducer_argmax_f32_i32 x y u v reducesTo_S128x100000_S128_d1 h_S_ j).1) arg0 v0 cst c
  let v1_1 : IVec S128 32 := (fun x y u v j => (Host.argReduce reducer_argmax_f32_i32 x y u v reducesTo_S128x100000_S128_d1 h_S_ j).2) arg0 v0 cst c
  v1_1

def fn_part2 {F : FTy → Type} [FloatOps F] (main_v2 : IVec S128x100000 1) (main_v33 : IVec S128 32) (main_v34 : IVec S128 32) : IVec S128x100000 1 × IVec S128 1 :=
  let main_v35 : IVec S128 1 := cmpi .slt main_v33 main_v34
  (main_v2, main_v35)

def fn_part1 {F : FTy → Type} [FloatOps F] (main_arg0 : FVec F S128x100000 .f32) (main_v2 : IVec S128x100000 1) (main_v14 : FVec F S128x100000 .f32) (main_v15 : FVec F S128x100000 .f32) : IVec S128x100000 1 × IVec S128 1 :=
  let main_v16 : FVec F S128x100000 .f32 := addf main_v14 main_v15
  let main_v17 : FVec F S128x100000 .f32 := Host.log main_v16
  let main_v18 : FVec F S128x100000 .f32 := Host.negf main_v17
  let main_v19 : FVec F S128x100000 .f32 := addf main_arg0 main_v18
  let main_cst_6 : FVec F S_ .f32 := constant S_ .f32 0x40A00000#32
  let main_v20 : FVec F S128x100000 .f32 := broadcastInDim S128x100000 ![] bcast_S_S128x100000 main_cst_6
  let main_v21 : FVec F S128x100000 .f32 := Host.divf main_v19 main_v20
  let main_cst_7 : FVec F S_ .f32 := constant S_ .f32 0xFF800000#32
  let main_v22 : FVec F S128 .f32 := (fun x v => Host.reduce FloatOps.maximumf x v reducesTo_S128x100000_S128_d1 h_S_) main_v21 main_cst_7
  let main_cst_8 : FVec F S_ .f32 := constant S_ .f32 0xFF800000#32
  let main_v23 : FVec F S128 .f32 := broadcastInDim S128 ![] bcast_S_S128 main_cst_8
  let main_v24 : FVec F S128 .f32 := maximumf main_v23 main_v22
  let main_v25 : FVec F S128x1 .f32 := broadcastInDim S128x1 ![0] bcast_S128_S128x1_0 main_v24
  let main_v26 : FVec F S128x100000 .f32 := broadcastInDim S128x100000 ![0, 1] bcast_S128x1_S128x100000_0_1 main_v25
  let main_v27 : FVec F S128x100000 .f32 := subf main_v21 main_v26
  let main_v28 : FVec F S128x100000 .f32 := Host.exp main_v27
  let main_cst_9 : FVec F S_ .f32 := constant S_ .f32 0x00000000#32
  let main_v29 : FVec F S128 .f32 := (fun x v => Host.reduceAdd x v reducesTo_S128x100000_S128_d1 h_S_) main_v28 main_cst_9
  let main_v30 : FVec F S128x1 .f32 := broadcastInDim S128x1 ![0] bcast_S128_S128x1_0 main_v29
  let main_v31 : FVec F S128x100000 .f32 := broadcastInDim S128x100000 ![0, 1] bcast_S128x1_S128x100000_0_1 main_v30
  let main_v32 : FVec F S128x100000 .f32 := Host.divf main_v28 main_v31
  let main_v33 : IVec S128 32 := fn_argmax (F := F) main_v32
  let main_c_10 : IVec S_ 32 := constantI S_ 32 99968#32
  let main_v34 : IVec S128 32 := broadcastInDim S128 ![] bcast_S_S128 main_c_10
  fn_part2 (F := F) main_v2 main_v33 main_v34

def fn {F : FTy → Type} [FloatOps F] (main_arg0 : FVec F S128x100000 .f32) : IVec S128x100000 1 × IVec S128 1 :=
  let main_v0 : FVec F S128x100000 .f32 := Host.absf main_arg0
  let main_cst : FVec F S_ .f32 := constant S_ .f32 0x7F800000#32
  let main_v1 : FVec F S128x100000 .f32 := broadcastInDim S128x100000 ![] bcast_S_S128x100000 main_cst
  let main_v2 : IVec S128x100000 1 := cmpf .olt main_v0 main_v1
  let main_c : IVec S_ 32 := constantI S_ 32 42#32
  let main_c_0 : IVec S_ 32 := constantI S_ 32 32#32
  let main_v3 : IVec S_ 32 := Host.shrui main_c main_c_0
  let main_v4 : IVec S_ 32 := id main_v3
  let main_v5 : IVec S1 32 := broadcastInDim S1 ![] bcast_S_S1 main_v4
  let main_c_1 : IVec S_ 32 := constantI S_ 32 4294967295#32
  let main_v6 : IVec S_ 32 := andi main_c main_c_1
  let main_v7 : IVec S_ 32 := id main_v6
  let main_v8 : IVec S1 32 := broadcastInDim S1 ![] bcast_S_S1 main_v7
  let main_v9 : IVec S2 32 := (fun a b => concatenate S2 0 [⟨S1, a⟩, ⟨S1, b⟩] concatenates_S1_S1_S2_d0) main_v5 main_v8
  let main_cst_2 : FVec F S_ .f32 := constant S_ .f32 0x00000000#32
  let main_cst_3 : FVec F S_ .f32 := constant S_ .f32 0x3F800000#32
  let main_v10 : FVec F S128x100000 .f32 := fn_uniform (F := F) main_v9 main_cst_2 main_cst_3
  let main_cst_4 : FVec F S_ .f32 := constant S_ .f32 0x322BCC77#32
  let main_v11 : FVec F S128x100000 .f32 := broadcastInDim S128x100000 ![] bcast_S_S128x100000 main_cst_4
  let main_v12 : FVec F S128x100000 .f32 := addf main_v10 main_v11
  let main_v13 : FVec F S128x100000 .f32 := Host.log main_v12
  let main_v14 : FVec F S128x100000 .f32 := Host.negf main_v13
  let main_cst_5 : FVec F S_ .f32 := constant S_ .f32 0x322BCC77#32
  let main_v15 : FVec F S128x100000 .f32 := broadcastInDim S128x100000 ![] bcast_S_S128x100000 main_cst_5
  fn_part1 (F := F) main_arg0 main_v2 main_v14 main_v15
-- ==== KernelIdeal.lean ====
abbrev S128x100000 : Shape := ⟨2, ![128, 100000]⟩
abbrev S128x1 : Shape := ⟨2, ![128, 1]⟩
abbrev S16x8 : Shape := ⟨2, ![16, 8]⟩
abbrev S128x2048 : Shape := ⟨2, ![128, 2048]⟩
abbrev S128 : Shape := ⟨1, ![128]⟩
abbrev S16x8x8x128 : Shape := ⟨4, ![16, 8, 8, 128]⟩
abbrev S_ : Shape := ⟨0, ![]⟩
abbrev S16x8x1x1 : Shape := ⟨4, ![16, 8, 1, 1]⟩
abbrev S16x1x8x1 : Shape := ⟨4, ![16, 1, 8, 1]⟩
abbrev S1x1 : Shape := ⟨2, ![1, 1]⟩
abbrev S8x128 : Shape := ⟨2, ![8, 128]⟩
abbrev S1x1x8x128 : Shape := ⟨4, ![1, 1, 8, 128]⟩

abbrev nBuf : Space → Nat
  | .hbm => 5
  | .vmem => 8
  | .smem => 1
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S128x1, .i32⟩
  | .hbm, ⟨3, _⟩ => ⟨S16x8, .i32⟩
  | .hbm, ⟨4, _⟩ => ⟨S128x100000, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x1, .i32⟩
  | .local _ .vmem, ⟨5, _⟩ => ⟨S128x1, .f32⟩
  | .local _ .vmem, ⟨6, _⟩ => ⟨S16x8, .i32⟩
  | .local _ .vmem, ⟨7, _⟩ => ⟨S16x8x8x128, .f32⟩
  | .local _ .smem, ⟨0, _⟩ => ⟨S128x1, .i32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_call0_v0_0 : Ref sig .tc := ⟨.hbm, 1, rfl⟩
abbrev main_call0_v0_1 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg1_0 : Ref sig .tc := ⟨.vmem, 6, rfl⟩
abbrev cc1_scratch0 : Ref sig .tc := ⟨.vmem, 7, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6

abbrev nD : Nat := 1
abbrev τ : Topo := Topo.v7x

variable {F : FTy → Type} [FloatOps F]

abbrev grid0 : Pipeline.Grid := ⟨1, ![49], ![false]⟩

def k0_cond1 (i : grid0.Coords) : BitVec 1 :=
  let arg0 : BitVec 32 := BitVec.ofNat 32 (i 0).val
  let c0_i32_47 : BitVec 32 := 0#32
  let v209 : BitVec 1 := Scalar.cmpi .eq arg0 c0_i32_47
  let v210 : BitVec 32 := Scalar.extui v209
  let c0_i32_48 : BitVec 32 := 0#32
  let v211 : BitVec 1 := Scalar.cmpi .ne v210 c0_i32_48
  v211

def k0_cond2 (i : grid0.Coords) : BitVec 1 :=
  let arg0 : BitVec 32 := BitVec.ofNat 32 (i 0).val
  let c0_i32_49 : BitVec 32 := 0#32
  let v212 : BitVec 1 := Scalar.cmpi .sgt arg0 c0_i32_49
  let v213 : BitVec 32 := Scalar.extui v212
  let c0_i32_50 : BitVec 32 := 0#32
  let v214 : BitVec 1 := Scalar.cmpi .ne v213 c0_i32_50
  v214

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := .none

@[reducible] def k1_t1_loop : Scf.Loop 32 :=
  let c0_i32_10 : BitVec 32 := 0#32
  let c128_i32_11 : BitVec 32 := 128#32
  let v40 : BitVec 32 := Scalar.addi c0_i32_10 c128_i32_11
  let c1_i32_12 : BitVec 32 := 1#32
  ⟨c0_i32_10, v40, c1_i32_12⟩
def k1_off1 (k1_t1 : Fin k1_t1_loop.trips) : Fin 2 → Nat :=
  let c0_i32_10 : BitVec 32 := 0#32
  let c1_i32_12 : BitVec 32 := 1#32
  let arg6 : BitVec 32 := Scf.iv c0_i32_10 c1_i32_12 k1_t1
  let v61 : Index := Scalar.indexCast arg6
  let c0_25 : Index := 0#32
  ![v61.toNat, 0]
def k1_mult1 (v62 : BitVec 32) : BitVec 32 :=
  let c0_i32_27 : BitVec 32 := 0#32
  let v64 : BitVec 1 := Scalar.cmpi .sgt v62 c0_i32_27
  let v65 : BitVec 32 := Scalar.extui v64
  let c0_i32_28 : BitVec 32 := 0#32
  let v66 : BitVec 1 := Scalar.cmpi .slt v62 c0_i32_28
  let v67 : BitVec 32 := Scalar.extui v66
  let v68 : BitVec 32 := Scalar.subi v65 v67
  let c128_i32_26 : BitVec 32 := 128#32
  let c0_i32_29 : BitVec 32 := 0#32
  let v69 : BitVec 1 := Scalar.cmpi .sgt c128_i32_26 c0_i32_29
  let v70 : BitVec 32 := Scalar.extui v69
  let c0_i32_30 : BitVec 32 := 0#32
  let v71 : BitVec 1 := Scalar.cmpi .slt c128_i32_26 c0_i32_30
  let v72 : BitVec 32 := Scalar.extui v71
  let v73 : BitVec 32 := Scalar.subi v70 v72
  let v74 : BitVec 1 := Scalar.cmpi .ne v68 v73
  let v75 : BitVec 32 := Scalar.remsi v62 c128_i32_26
  let c0_i32_31 : BitVec 32 := 0#32
  let v76 : BitVec 1 := Scalar.cmpi .ne v75 c0_i32_31
  let v77 : BitVec 1 := Scalar.andi v74 v76
  let v63 : BitVec 32 := Scalar.divsi v62 c128_i32_26
  let c1_i32_32 : BitVec 32 := 1#32
  let v78 : BitVec 32 := Scalar.subi v63 c1_i32_32
  let v79 : BitVec 32 := Scalar.select v77 v78 v63
  let c128_i32_33 : BitVec 32 := 128#32
  let v80 : BitVec 32 := Scalar.muli v79 c128_i32_33
  v80

def k1_mult2 (k1_t1 : Fin k1_t1_loop.trips) : BitVec 32 :=
  let c0_i32_10 : BitVec 32 := 0#32
  let c1_i32_12 : BitVec 32 := 1#32
  let arg6 : BitVec 32 := Scf.iv c0_i32_10 c1_i32_12 k1_t1
  let c0_i32_18 : BitVec 32 := 0#32
  let v43 : BitVec 1 := Scalar.cmpi .sgt arg6 c0_i32_18
  let v44 : BitVec 32 := Scalar.extui v43
  let c0_i32_19 : BitVec 32 := 0#32
  let v45 : BitVec 1 := Scalar.cmpi .slt arg6 c0_i32_19
  let v46 : BitVec 32 := Scalar.extui v45
  let v47 : BitVec 32 := Scalar.subi v44 v46
  let c8_i32 : BitVec 32 := 8#32
  let c0_i32_20 : BitVec 32 := 0#32
  let v48 : BitVec 1 := Scalar.cmpi .sgt c8_i32 c0_i32_20
  let v49 : BitVec 32 := Scalar.extui v48
  let c0_i32_21 : BitVec 32 := 0#32
  let v50 : BitVec 1 := Scalar.cmpi .slt c8_i32 c0_i32_21
  let v51 : BitVec 32 := Scalar.extui v50
  let v52 : BitVec 32 := Scalar.subi v49 v51
  let v53 : BitVec 1 := Scalar.cmpi .ne v47 v52
  let v54 : BitVec 32 := Scalar.remsi arg6 c8_i32
  let c0_i32_22 : BitVec 32 := 0#32
  let v55 : BitVec 1 := Scalar.cmpi .ne v54 c0_i32_22
  let v56 : BitVec 1 := Scalar.andi v53 v55
  let v42 : BitVec 32 := Scalar.divsi arg6 c8_i32
  let c1_i32_23 : BitVec 32 := 1#32
  let v57 : BitVec 32 := Scalar.subi v42 c1_i32_23
  let v58 : BitVec 32 := Scalar.select v56 v57 v42
  let c8_i32_34 : BitVec 32 := 8#32
  let v82 : BitVec 32 := Scalar.muli v58 c8_i32_34
  v82
def k1_off2 (k1_t1 : Fin k1_t1_loop.trips) (v62 : BitVec 32) : Fin 2 → Nat :=
  let c0_i32_10 : BitVec 32 := 0#32
  let c1_i32_12 : BitVec 32 := 1#32
  let arg6 : BitVec 32 := Scf.iv c0_i32_10 c1_i32_12 k1_t1
  let c0_i32_18 : BitVec 32 := 0#32
  let v43 : BitVec 1 := Scalar.cmpi .sgt arg6 c0_i32_18
  let v44 : BitVec 32 := Scalar.extui v43
  let c0_i32_19 : BitVec 32 := 0#32
  let v45 : BitVec 1 := Scalar.cmpi .slt arg6 c0_i32_19
  let v46 : BitVec 32 := Scalar.extui v45
  let v47 : BitVec 32 := Scalar.subi v44 v46
  let c8_i32 : BitVec 32 := 8#32
  let c0_i32_20 : BitVec 32 := 0#32
  let v48 : BitVec 1 := Scalar.cmpi .sgt c8_i32 c0_i32_20
  let v49 : BitVec 32 := Scalar.extui v48
  let c0_i32_21 : BitVec 32 := 0#32
  let v50 : BitVec 1 := Scalar.cmpi .slt c8_i32 c0_i32_21
  let v51 : BitVec 32 := Scalar.extui v50
  let v52 : BitVec 32 := Scalar.subi v49 v51
  let v53 : BitVec 1 := Scalar.cmpi .ne v47 v52
  let v54 : BitVec 32 := Scalar.remsi arg6 c8_i32
  let c0_i32_22 : BitVec 32 := 0#32
  let v55 : BitVec 1 := Scalar.cmpi .ne v54 c0_i32_22
  let v56 : BitVec 1 := Scalar.andi v53 v55
  let v42 : BitVec 32 := Scalar.divsi arg6 c8_i32
  let c1_i32_23 : BitVec 32 := 1#32
  let v57 : BitVec 32 := Scalar.subi v42 c1_i32_23
  let v58 : BitVec 32 := Scalar.select v56 v57 v42
  let c8_i32_34 : BitVec 32 := 8#32
  let v82 : BitVec 32 := Scalar.muli v58 c8_i32_34
  let v83 : BitVec 32 := v82
  let c0_i32_27 : BitVec 32 := 0#32
  let v64 : BitVec 1 := Scalar.cmpi .sgt v62 c0_i32_27
  let v65 : BitVec 32 := Scalar.extui v64
  let c0_i32_28 : BitVec 32 := 0#32
  let v66 : BitVec 1 := Scalar.cmpi .slt v62 c0_i32_28
  let v67 : BitVec 32 := Scalar.extui v66
  let v68 : BitVec 32 := Scalar.subi v65 v67
  let c128_i32_26 : BitVec 32 := 128#32
  let c0_i32_29 : BitVec 32 := 0#32
  let v69 : BitVec 1 := Scalar.cmpi .sgt c128_i32_26 c0_i32_29
  let v70 : BitVec 32 := Scalar.extui v69
  let c0_i32_30 : BitVec 32 := 0#32
  let v71 : BitVec 1 := Scalar.cmpi .slt c128_i32_26 c0_i32_30
  let v72 : BitVec 32 := Scalar.extui v71
  let v73 : BitVec 32 := Scalar.subi v70 v72
  let v74 : BitVec 1 := Scalar.cmpi .ne v68 v73
  let v75 : BitVec 32 := Scalar.remsi v62 c128_i32_26
  let c0_i32_31 : BitVec 32 := 0#32
  let v76 : BitVec 1 := Scalar.cmpi .ne v75 c0_i32_31
  let v77 : BitVec 1 := Scalar.andi v74 v76
  let v63 : BitVec 32 := Scalar.divsi v62 c128_i32_26
  let c1_i32_32 : BitVec 32 := 1#32
  let v78 : BitVec 32 := Scalar.subi v63 c1_i32_32
  let v79 : BitVec 32 := Scalar.select v77 v78 v63
  let c128_i32_33 : BitVec 32 := 128#32
  let v80 : BitVec 32 := Scalar.muli v79 c128_i32_33
  let v81 : BitVec 32 := v80
  ![v83.toNat, v81.toNat]

def k1_chk1 (k1_t1 : Fin k1_t1_loop.trips) (v62 : BitVec 32) : Prop :=
  (128 ∣ (k1_mult1 v62).toNat) ∧
  (∀ a, (k1_off2 k1_t1 v62) a + S8x128.size a ≤ S128x100000.size a)
theorem k1_mult1_dvd : ∀ (k1_t1 : Fin k1_t1_loop.trips) (v62 : BitVec 32) (k1_hw1 : k1_chk1 k1_t1 v62), 128 ∣ (k1_mult1 v62).toNat := fun k1_t1 v62 k1_hw1 => k1_hw1.1
theorem k1_off2_inb : ∀ (k1_t1 : Fin k1_t1_loop.trips) (v62 : BitVec 32) (k1_hw1 : k1_chk1 k1_t1 v62), ∀ a, (k1_off2 k1_t1 v62) a + S8x128.size a ≤ S128x100000.size a := fun k1_t1 v62 k1_hw1 => k1_hw1.2

def k1_off3 (k1_t1 : Fin k1_t1_loop.trips) : Fin 4 → Nat :=
  let c0_i32_10 : BitVec 32 := 0#32
  let c1_i32_12 : BitVec 32 := 1#32
  let arg6 : BitVec 32 := Scf.iv c0_i32_10 c1_i32_12 k1_t1
  let c0_i32_18 : BitVec 32 := 0#32
  let v43 : BitVec 1 := Scalar.cmpi .sgt arg6 c0_i32_18
  let v44 : BitVec 32 := Scalar.extui v43
  let c0_i32_19 : BitVec 32 := 0#32
  let v45 : BitVec 1 := Scalar.cmpi .slt arg6 c0_i32_19
  let v46 : BitVec 32 := Scalar.extui v45
  let v47 : BitVec 32 := Scalar.subi v44 v46
  let c8_i32 : BitVec 32 := 8#32
  let c0_i32_20 : BitVec 32 := 0#32
  let v48 : BitVec 1 := Scalar.cmpi .sgt c8_i32 c0_i32_20
  let v49 : BitVec 32 := Scalar.extui v48
  let c0_i32_21 : BitVec 32 := 0#32
  let v50 : BitVec 1 := Scalar.cmpi .slt c8_i32 c0_i32_21
  let v51 : BitVec 32 := Scalar.extui v50
  let v52 : BitVec 32 := Scalar.subi v49 v51
  let v53 : BitVec 1 := Scalar.cmpi .ne v47 v52
  let v54 : BitVec 32 := Scalar.remsi arg6 c8_i32
  let c0_i32_22 : BitVec 32 := 0#32
  let v55 : BitVec 1 := Scalar.cmpi .ne v54 c0_i32_22
  let v56 : BitVec 1 := Scalar.andi v53 v55
  let v42 : BitVec 32 := Scalar.divsi arg6 c8_i32
  let c1_i32_23 : BitVec 32 := 1#32
  let v57 : BitVec 32 := Scalar.subi v42 c1_i32_23
  let v58 : BitVec 32 := Scalar.select v56 v57 v42
  let c8_i32_24 : BitVec 32 := 8#32
  let v59 : BitVec 32 := Scalar.muli v58 c8_i32_24
  let v60 : BitVec 32 := Scalar.subi arg6 v59
  let c0_i32_35 : BitVec 32 := 0#32
  let c0_i32_36 : BitVec 32 := 0#32
  ![v58.toNat, v60.toNat, 0, 0]
@[reducible] def k1_t2_loop : Scf.Loop 32 :=
  let c0_i32_14 : BitVec 32 := 0#32
  let c128_i32_15 : BitVec 32 := 128#32
  let v41 : BitVec 32 := Scalar.addi c0_i32_14 c128_i32_15
  let c1_i32_16 : BitVec 32 := 1#32
  ⟨c0_i32_14, v41, c1_i32_16⟩
def k1_off4 (k1_t2 : Fin k1_t2_loop.trips) : Fin 2 → Nat :=
  let c0_i32_14 : BitVec 32 := 0#32
  let c1_i32_16 : BitVec 32 := 1#32
  let arg6 : BitVec 32 := Scf.iv c0_i32_14 c1_i32_16 k1_t2
  let v61 : Index := Scalar.indexCast arg6
  let c0_25 : Index := 0#32
  ![v61.toNat, 0]
def k1_mult3 (v62 : BitVec 32) : BitVec 32 :=
  let c0_i32_27 : BitVec 32 := 0#32
  let v64 : BitVec 1 := Scalar.cmpi .sgt v62 c0_i32_27
  let v65 : BitVec 32 := Scalar.extui v64
  let c0_i32_28 : BitVec 32 := 0#32
  let v66 : BitVec 1 := Scalar.cmpi .slt v62 c0_i32_28
  let v67 : BitVec 32 := Scalar.extui v66
  let v68 : BitVec 32 := Scalar.subi v65 v67
  let c128_i32_26 : BitVec 32 := 128#32
  let c0_i32_29 : BitVec 32 := 0#32
  let v69 : BitVec 1 := Scalar.cmpi .sgt c128_i32_26 c0_i32_29
  let v70 : BitVec 32 := Scalar.extui v69
  let c0_i32_30 : BitVec 32 := 0#32
  let v71 : BitVec 1 := Scalar.cmpi .slt c128_i32_26 c0_i32_30
  let v72 : BitVec 32 := Scalar.extui v71
  let v73 : BitVec 32 := Scalar.subi v70 v72
  let v74 : BitVec 1 := Scalar.cmpi .ne v68 v73
  let v75 : BitVec 32 := Scalar.remsi v62 c128_i32_26
  let c0_i32_31 : BitVec 32 := 0#32
  let v76 : BitVec 1 := Scalar.cmpi .ne v75 c0_i32_31
  let v77 : BitVec 1 := Scalar.andi v74 v76
  let v63 : BitVec 32 := Scalar.divsi v62 c128_i32_26
  let c1_i32_32 : BitVec 32 := 1#32
  let v78 : BitVec 32 := Scalar.subi v63 c1_i32_32
  let v79 : BitVec 32 := Scalar.select v77 v78 v63
  let c128_i32_33 : BitVec 32 := 128#32
  let v80 : BitVec 32 := Scalar.muli v79 c128_i32_33
  v80

def k1_mult4 (k1_t2 : Fin k1_t2_loop.trips) : BitVec 32 :=
  let c0_i32_14 : BitVec 32 := 0#32
  let c1_i32_16 : BitVec 32 := 1#32
  let arg6 : BitVec 32 := Scf.iv c0_i32_14 c1_i32_16 k1_t2
  let c0_i32_18 : BitVec 32 := 0#32
  let v43 : BitVec 1 := Scalar.cmpi .sgt arg6 c0_i32_18
  let v44 : BitVec 32 := Scalar.extui v43
  let c0_i32_19 : BitVec 32 := 0#32
  let v45 : BitVec 1 := Scalar.cmpi .slt arg6 c0_i32_19
  let v46 : BitVec 32 := Scalar.extui v45
  let v47 : BitVec 32 := Scalar.subi v44 v46
  let c8_i32 : BitVec 32 := 8#32
  let c0_i32_20 : BitVec 32 := 0#32
  let v48 : BitVec 1 := Scalar.cmpi .sgt c8_i32 c0_i32_20
  let v49 : BitVec 32 := Scalar.extui v48
  let c0_i32_21 : BitVec 32 := 0#32
  let v50 : BitVec 1 := Scalar.cmpi .slt c8_i32 c0_i32_21
  let v51 : BitVec 32 := Scalar.extui v50
  let v52 : BitVec 32 := Scalar.subi v49 v51
  let v53 : BitVec 1 := Scalar.cmpi .ne v47 v52
  let v54 : BitVec 32 := Scalar.remsi arg6 c8_i32
  let c0_i32_22 : BitVec 32 := 0#32
  let v55 : BitVec 1 := Scalar.cmpi .ne v54 c0_i32_22
  let v56 : BitVec 1 := Scalar.andi v53 v55
  let v42 : BitVec 32 := Scalar.divsi arg6 c8_i32
  let c1_i32_23 : BitVec 32 := 1#32
  let v57 : BitVec 32 := Scalar.subi v42 c1_i32_23
  let v58 : BitVec 32 := Scalar.select v56 v57 v42
  let c8_i32_34 : BitVec 32 := 8#32
  let v82 : BitVec 32 := Scalar.muli v58 c8_i32_34
  v82
def k1_off5 (k1_t2 : Fin k1_t2_loop.trips) (v62 : BitVec 32) : Fin 2 → Nat :=
  let c0_i32_14 : BitVec 32 := 0#32
  let c1_i32_16 : BitVec 32 := 1#32
  let arg6 : BitVec 32 := Scf.iv c0_i32_14 c1_i32_16 k1_t2
  let c0_i32_18 : BitVec 32 := 0#32
  let v43 : BitVec 1 := Scalar.cmpi .sgt arg6 c0_i32_18
  let v44 : BitVec 32 := Scalar.extui v43
  let c0_i32_19 : BitVec 32 := 0#32
  let v45 : BitVec 1 := Scalar.cmpi .slt arg6 c0_i32_19
  let v46 : BitVec 32 := Scalar.extui v45
  let v47 : BitVec 32 := Scalar.subi v44 v46
  let c8_i32 : BitVec 32 := 8#32
  let c0_i32_20 : BitVec 32 := 0#32
  let v48 : BitVec 1 := Scalar.cmpi .sgt c8_i32 c0_i32_20
  let v49 : BitVec 32 := Scalar.extui v48
  let c0_i32_21 : BitVec 32 := 0#32
  let v50 : BitVec 1 := Scalar.cmpi .slt c8_i32 c0_i32_21
  let v51 : BitVec 32 := Scalar.extui v50
  let v52 : BitVec 32 := Scalar.subi v49 v51
  let v53 : BitVec 1 := Scalar.cmpi .ne v47 v52
  let v54 : BitVec 32 := Scalar.remsi arg6 c8_i32
  let c0_i32_22 : BitVec 32 := 0#32
  let v55 : BitVec 1 := Scalar.cmpi .ne v54 c0_i32_22
  let v56 : BitVec 1 := Scalar.andi v53 v55
  let v42 : BitVec 32 := Scalar.divsi arg6 c8_i32
  let c1_i32_23 : BitVec 32 := 1#32
  let v57 : BitVec 32 := Scalar.subi v42 c1_i32_23
  let v58 : BitVec 32 := Scalar.select v56 v57 v42
  let c8_i32_34 : BitVec 32 := 8#32
  let v82 : BitVec 32 := Scalar.muli v58 c8_i32_34
  let v83 : BitVec 32 := v82
  let c0_i32_27 : BitVec 32 := 0#32
  let v64 : BitVec 1 := Scalar.cmpi .sgt v62 c0_i32_27
  let v65 : BitVec 32 := Scalar.extui v64
  let c0_i32_28 : BitVec 32 := 0#32
  let v66 : BitVec 1 := Scalar.cmpi .slt v62 c0_i32_28
  let v67 : BitVec 32 := Scalar.extui v66
  let v68 : BitVec 32 := Scalar.subi v65 v67
  let c128_i32_26 : BitVec 32 := 128#32
  let c0_i32_29 : BitVec 32 := 0#32
  let v69 : BitVec 1 := Scalar.cmpi .sgt c128_i32_26 c0_i32_29
  let v70 : BitVec 32 := Scalar.extui v69
  let c0_i32_30 : BitVec 32 := 0#32
  let v71 : BitVec 1 := Scalar.cmpi .slt c128_i32_26 c0_i32_30
  let v72 : BitVec 32 := Scalar.extui v71
  let v73 : BitVec 32 := Scalar.subi v70 v72
  let v74 : BitVec 1 := Scalar.cmpi .ne v68 v73
  let v75 : BitVec 32 := Scalar.remsi v62 c128_i32_26
  let c0_i32_31 : BitVec 32 := 0#32
  let v76 : BitVec 1 := Scalar.cmpi .ne v75 c0_i32_31
  let v77 : BitVec 1 := Scalar.andi v74 v76
  let v63 : BitVec 32 := Scalar.divsi v62 c128_i32_26
  let c1_i32_32 : BitVec 32 := 1#32
  let v78 : BitVec 32 := Scalar.subi v63 c1_i32_32
  let v79 : BitVec 32 := Scalar.select v77 v78 v63
  let c128_i32_33 : BitVec 32 := 128#32
  let v80 : BitVec 32 := Scalar.muli v79 c128_i32_33
  let v81 : BitVec 32 := v80
  ![v83.toNat, v81.toNat]

def k1_chk2 (k1_t2 : Fin k1_t2_loop.trips) (v62 : BitVec 32) : Prop :=
  (128 ∣ (k1_mult3 v62).toNat) ∧
  (∀ a, (k1_off5 k1_t2 v62) a + S8x128.size a ≤ S128x100000.size a)
theorem k1_mult3_dvd : ∀ (k1_t2 : Fin k1_t2_loop.trips) (v62 : BitVec 32) (k1_hw2 : k1_chk2 k1_t2 v62), 128 ∣ (k1_mult3 v62).toNat := fun k1_t2 v62 k1_hw2 => k1_hw2.1
theorem k1_off5_inb : ∀ (k1_t2 : Fin k1_t2_loop.trips) (v62 : BitVec 32) (k1_hw2 : k1_chk2 k1_t2 v62), ∀ a, (k1_off5 k1_t2 v62) a + S8x128.size a ≤ S128x100000.size a := fun k1_t2 v62 k1_hw2 => k1_hw2.2

def k1_off6 (k1_t2 : Fin k1_t2_loop.trips) : Fin 4 → Nat :=
  let c0_i32_14 : BitVec 32 := 0#32
  let c1_i32_16 : BitVec 32 := 1#32
  let arg6 : BitVec 32 := Scf.iv c0_i32_14 c1_i32_16 k1_t2
  let c0_i32_18 : BitVec 32 := 0#32
  let v43 : BitVec 1 := Scalar.cmpi .sgt arg6 c0_i32_18
  let v44 : BitVec 32 := Scalar.extui v43
  let c0_i32_19 : BitVec 32 := 0#32
  let v45 : BitVec 1 := Scalar.cmpi .slt arg6 c0_i32_19
  let v46 : BitVec 32 := Scalar.extui v45
  let v47 : BitVec 32 := Scalar.subi v44 v46
  let c8_i32 : BitVec 32 := 8#32
  let c0_i32_20 : BitVec 32 := 0#32
  let v48 : BitVec 1 := Scalar.cmpi .sgt c8_i32 c0_i32_20
  let v49 : BitVec 32 := Scalar.extui v48
  let c0_i32_21 : BitVec 32 := 0#32
  let v50 : BitVec 1 := Scalar.cmpi .slt c8_i32 c0_i32_21
  let v51 : BitVec 32 := Scalar.extui v50
  let v52 : BitVec 32 := Scalar.subi v49 v51
  let v53 : BitVec 1 := Scalar.cmpi .ne v47 v52
  let v54 : BitVec 32 := Scalar.remsi arg6 c8_i32
  let c0_i32_22 : BitVec 32 := 0#32
  let v55 : BitVec 1 := Scalar.cmpi .ne v54 c0_i32_22
  let v56 : BitVec 1 := Scalar.andi v53 v55
  let v42 : BitVec 32 := Scalar.divsi arg6 c8_i32
  let c1_i32_23 : BitVec 32 := 1#32
  let v57 : BitVec 32 := Scalar.subi v42 c1_i32_23
  let v58 : BitVec 32 := Scalar.select v56 v57 v42
  let c8_i32_24 : BitVec 32 := 8#32
  let v59 : BitVec 32 := Scalar.muli v58 c8_i32_24
  let v60 : BitVec 32 := Scalar.subi arg6 v59
  let c0_i32_35 : BitVec 32 := 0#32
  let c0_i32_36 : BitVec 32 := 0#32
  ![v58.toNat, v60.toNat, 0, 0]
abbrev stage1_0 : Fin 1 → Memref sig .tc .smem S128x1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x8 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReferenceIdeal.lean ====
abbrev S128x100000 : Shape := ⟨2, ![128, 100000]⟩
abbrev S_ : Shape := ⟨0, ![]⟩
abbrev S1 : Shape := ⟨1, ![1]⟩
abbrev S2 : Shape := ⟨1, ![2]⟩
abbrev S1x1 : Shape := ⟨2, ![1, 1]⟩
abbrev S128 : Shape := ⟨1, ![128]⟩
abbrev S128x1 : Shape := ⟨2, ![128, 1]⟩
abbrev S1x100000 : Shape := ⟨2, ![1, 100000]⟩

abbrev nBuf : Space → Nat
  | .hbm => 316
  | .vmem => 0
  | .smem => 0
  | _ => 0

abbrev hbmTy0_0 (i : Nat) : BufTy := match i % 128 with
  | 0 => ⟨S128x100000, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S_, .f32⟩
  | 12 => ⟨S_, .f32⟩
  | 13 => ⟨S_, .f32⟩
  | 14 => ⟨S_, .f32⟩
  | 15 => ⟨S1x1, .f32⟩
  | 16 => ⟨S1x1, .f32⟩
  | 17 => ⟨S1, .i32⟩
  | 18 => ⟨S_, .i32⟩
  | 19 => ⟨S1, .i32⟩
  | 20 => ⟨S_, .i32⟩
  | 21 => ⟨S128x100000, .i64⟩
  | 22 => ⟨S128x100000, .i64⟩
  | 23 => ⟨S_, .i64⟩
  | 24 => ⟨S128x100000, .i64⟩
  | 25 => ⟨S128x100000, .i64⟩
  | 26 => ⟨S_, .i64⟩
  | 27 => ⟨S128x100000, .i64⟩
  | 28 => ⟨S128x100000, .i64⟩
  | 29 => ⟨S128x100000, .i64⟩
  | 30 => ⟨S_, .i64⟩
  | 31 => ⟨S128x100000, .i64⟩
  | 32 => ⟨S128x100000, .i64⟩
  | 33 => ⟨S128x100000, .i32⟩
  | 34 => ⟨S128x100000, .i32⟩
  | 35 => ⟨S_, .i32⟩
  | 36 => ⟨S_, .i32⟩
  | 37 => ⟨S_, .i32⟩
  | 38 => ⟨S128x100000, .i32⟩
  | 39 => ⟨S128x100000, .i32⟩
  | 40 => ⟨S128x100000, .i32⟩
  | 41 => ⟨S128x100000, .i32⟩
  | 42 => ⟨S128x100000, .i32⟩
  | 43 => ⟨S_, .i32⟩
  | 44 => ⟨S128x100000, .i32⟩
  | 45 => ⟨S128x100000, .i32⟩
  | 46 => ⟨S_, .i32⟩
  | 47 => ⟨S128x100000, .i32⟩
  | 48 => ⟨S128x100000, .i32⟩
  | 49 => ⟨S128x100000, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S128x100000, .i32⟩
  | 59 => ⟨S128x100000, .i32⟩
  | 60 => ⟨S128x100000, .i32⟩
  | 61 => ⟨S_, .i32⟩
  | 62 => ⟨S128x100000, .i32⟩
  | 63 => ⟨S128x100000, .i32⟩
  | 64 => ⟨S_, .i32⟩
  | 65 => ⟨S128x100000, .i32⟩
  | 66 => ⟨S128x100000, .i32⟩
  | 67 => ⟨S128x100000, .i32⟩
  | 68 => ⟨S128x100000, .i32⟩
  | 69 => ⟨S128x100000, .i32⟩
  | 70 => ⟨S_, .i32⟩
  | 71 => ⟨S128x100000, .i32⟩
  | 72 => ⟨S128x100000, .i32⟩
  | 73 => ⟨S_, .i32⟩
  | 74 => ⟨S128x100000, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S_, .i32⟩
  | 83 => ⟨S128x100000, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S128x100000, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S_, .i32⟩
  | 99 => ⟨S128x100000, .i32⟩
  | 100 => ⟨S128x100000, .i32⟩
  | 101 => ⟨S128x100000, .i32⟩
  | 102 => ⟨S128x100000, .i32⟩
  | 103 => ⟨S128x100000, .i32⟩
  | 104 => ⟨S_, .i32⟩
  | 105 => ⟨S128x100000, .i32⟩
  | 106 => ⟨S128x100000, .i32⟩
  | 107 => ⟨S_, .i32⟩
  | 108 => ⟨S128x100000, .i32⟩
  | 109 => ⟨S128x100000, .i32⟩
  | 110 => ⟨S128x100000, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S_, .i32⟩
  | 117 => ⟨S128x100000, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S_, .i32⟩
  | 126 => ⟨S128x100000, .i32⟩
  | 127 => ⟨S128x100000, .i32⟩
  | _ => ⟨S128x100000, .f32⟩

abbrev hbmTy0_1 (i : Nat) : BufTy := match i % 128 with
  | 0 => ⟨S128x100000, .i32⟩
  | 1 => ⟨S_, .i32⟩
  | 2 => ⟨S128x100000, .i32⟩
  | 3 => ⟨S128x100000, .i32⟩
  | 4 => ⟨S_, .i32⟩
  | 5 => ⟨S128x100000, .i32⟩
  | 6 => ⟨S128x100000, .i32⟩
  | 7 => ⟨S128x100000, .i32⟩
  | 8 => ⟨S128x100000, .i32⟩
  | 9 => ⟨S128x100000, .i32⟩
  | 10 => ⟨S_, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S128x100000, .i32⟩
  | 17 => ⟨S128x100000, .i32⟩
  | 18 => ⟨S128x100000, .i32⟩
  | 19 => ⟨S_, .i32⟩
  | 20 => ⟨S128x100000, .i32⟩
  | 21 => ⟨S128x100000, .i32⟩
  | 22 => ⟨S_, .i32⟩
  | 23 => ⟨S128x100000, .i32⟩
  | 24 => ⟨S128x100000, .i32⟩
  | 25 => ⟨S128x100000, .i32⟩
  | 26 => ⟨S128x100000, .i32⟩
  | 27 => ⟨S128x100000, .i32⟩
  | 28 => ⟨S_, .i32⟩
  | 29 => ⟨S128x100000, .i32⟩
  | 30 => ⟨S128x100000, .i32⟩
  | 31 => ⟨S_, .i32⟩
  | 32 => ⟨S128x100000, .i32⟩
  | 33 => ⟨S128x100000, .i32⟩
  | 34 => ⟨S128x100000, .i32⟩
  | 35 => ⟨S128x100000, .i32⟩
  | 36 => ⟨S128x100000, .i32⟩
  | 37 => ⟨S128x100000, .i32⟩
  | 38 => ⟨S128x100000, .i32⟩
  | 39 => ⟨S128x100000, .i32⟩
  | 40 => ⟨S_, .i32⟩
  | 41 => ⟨S128x100000, .i32⟩
  | 42 => ⟨S128x100000, .i32⟩
  | 43 => ⟨S128x100000, .i32⟩
  | 44 => ⟨S_, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S128x100000, .i32⟩
  | 51 => ⟨S128x100000, .i32⟩
  | 52 => ⟨S128x100000, .i32⟩
  | 53 => ⟨S_, .i32⟩
  | 54 => ⟨S128x100000, .i32⟩
  | 55 => ⟨S128x100000, .i32⟩
  | 56 => ⟨S_, .i32⟩
  | 57 => ⟨S128x100000, .i32⟩
  | 58 => ⟨S128x100000, .i32⟩
  | 59 => ⟨S128x100000, .i32⟩
  | 60 => ⟨S128x100000, .i32⟩
  | 61 => ⟨S128x100000, .i32⟩
  | 62 => ⟨S_, .i32⟩
  | 63 => ⟨S128x100000, .i32⟩
  | 64 => ⟨S128x100000, .i32⟩
  | 65 => ⟨S_, .i32⟩
  | 66 => ⟨S128x100000, .i32⟩
  | 67 => ⟨S128x100000, .i32⟩
  | 68 => ⟨S128x100000, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S_, .i32⟩
  | 75 => ⟨S128x100000, .i32⟩
  | 76 => ⟨S128x100000, .i32⟩
  | 77 => ⟨S128x100000, .i32⟩
  | 78 => ⟨S128x100000, .i32⟩
  | 79 => ⟨S128x100000, .i32⟩
  | 80 => ⟨S128x100000, .i32⟩
  | 81 => ⟨S128x100000, .i32⟩
  | 82 => ⟨S128x100000, .i32⟩
  | 83 => ⟨S_, .i32⟩
  | 84 => ⟨S128x100000, .i32⟩
  | 85 => ⟨S128x100000, .i32⟩
  | 86 => ⟨S128x100000, .i32⟩
  | 87 => ⟨S_, .i32⟩
  | 88 => ⟨S128x100000, .i32⟩
  | 89 => ⟨S128x100000, .i32⟩
  | 90 => ⟨S_, .i32⟩
  | 91 => ⟨S128x100000, .i32⟩
  | 92 => ⟨S128x100000, .i32⟩
  | 93 => ⟨S128x100000, .i32⟩
  | 94 => ⟨S128x100000, .i32⟩
  | 95 => ⟨S128x100000, .i32⟩
  | 96 => ⟨S_, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S128x100000, .i32⟩
  | 103 => ⟨S128x100000, .i32⟩
  | 104 => ⟨S128x100000, .i32⟩
  | 105 => ⟨S_, .i32⟩
  | 106 => ⟨S128x100000, .i32⟩
  | 107 => ⟨S128x100000, .i32⟩
  | 108 => ⟨S_, .i32⟩
  | 109 => ⟨S128x100000, .i32⟩
  | 110 => ⟨S128x100000, .i32⟩
  | 111 => ⟨S128x100000, .i32⟩
  | 112 => ⟨S128x100000, .i32⟩
  | 113 => ⟨S128x100000, .i32⟩
  | 114 => ⟨S_, .i32⟩
  | 115 => ⟨S128x100000, .i32⟩
  | 116 => ⟨S128x100000, .i32⟩
  | 117 => ⟨S_, .i32⟩
  | 118 => ⟨S128x100000, .i32⟩
  | 119 => ⟨S128x100000, .i32⟩
  | 120 => ⟨S128x100000, .i32⟩
  | 121 => ⟨S128x100000, .i32⟩
  | 122 => ⟨S128x100000, .i32⟩
  | 123 => ⟨S128x100000, .i32⟩
  | 124 => ⟨S128x100000, .i32⟩
  | 125 => ⟨S128x100000, .i32⟩
  | 126 => ⟨S_, .i32⟩
  | 127 => ⟨S128x100000, .i32⟩
  | _ => ⟨S128x100000, .f32⟩

abbrev hbmTy0_2 (i : Nat) : BufTy := match i % 128 with
  | 0 => ⟨S128x100000, .i32⟩
  | 1 => ⟨S128x100000, .i32⟩
  | 2 => ⟨S_, .i32⟩
  | 3 => ⟨S128x100000, .i32⟩
  | 4 => ⟨S128x100000, .i32⟩
  | 5 => ⟨S_, .i32⟩
  | 6 => ⟨S128x100000, .i32⟩
  | 7 => ⟨S128x100000, .i32⟩
  | 8 => ⟨S128x100000, .f32⟩
  | 9 => ⟨S_, .f32⟩
  | 10 => ⟨S128x100000, .f32⟩
  | 11 => ⟨S128x100000, .f32⟩
  | 12 => ⟨S1x1, .f32⟩
  | 13 => ⟨S128x100000, .f32⟩
  | 14 => ⟨S128x100000, .f32⟩
  | 15 => ⟨S128x100000, .f32⟩
  | 16 => ⟨S128x100000, .f32⟩
  | 17 => ⟨S128x100000, .f32⟩
  | 18 => ⟨S128x100000, .f32⟩
  | 19 => ⟨S_, .f32⟩
  | 20 => ⟨S128x100000, .f32⟩
  | 21 => ⟨S128x100000, .f32⟩
  | 22 => ⟨S128x100000, .f32⟩
  | 23 => ⟨S128x100000, .f32⟩
  | 24 => ⟨S_, .f32⟩
  | 25 => ⟨S128x100000, .f32⟩
  | 26 => ⟨S128x100000, .f32⟩
  | 27 => ⟨S128x100000, .f32⟩
  | 28 => ⟨S128x100000, .f32⟩
  | 29 => ⟨S128x100000, .f32⟩
  | 30 => ⟨S_, .f32⟩
  | 31 => ⟨S128x100000, .f32⟩
  | 32 => ⟨S128x100000, .f32⟩
  | 33 => ⟨S_, .f32⟩
  | 34 => ⟨S128, .f32⟩
  | 35 => ⟨S_, .f32⟩
  | 36 => ⟨S128, .f32⟩
  | 37 => ⟨S128, .f32⟩
  | 38 => ⟨S128x1, .f32⟩
  | 39 => ⟨S128x100000, .f32⟩
  | 40 => ⟨S128x100000, .f32⟩
  | 41 => ⟨S128x100000, .f32⟩
  | 42 => ⟨S_, .f32⟩
  | 43 => ⟨S128, .f32⟩
  | 44 => ⟨S128x1, .f32⟩
  | 45 => ⟨S128x100000, .f32⟩
  | 46 => ⟨S128x100000, .f32⟩
  | 47 => ⟨S128x100000, .i32⟩
  | 48 => ⟨S_, .f32⟩
  | 49 => ⟨S_, .i32⟩
  | 50 => ⟨S128, .f32⟩
  | 51 => ⟨S128, .i32⟩
  | 52 => ⟨S128x1, .i32⟩
  | 53 => ⟨S1x100000, .i32⟩
  | 54 => ⟨S128x100000, .i32⟩
  | 55 => ⟨S128x100000, .i32⟩
  | 56 => ⟨S128x100000, .i1⟩
  | 57 => ⟨S128x100000, .f32⟩
  | 58 => ⟨S128x100000, .f32⟩
  | 59 => ⟨S128x100000, .f32⟩
  | _ => ⟨S128x100000, .f32⟩

abbrev hbmTy (i : Nat) : BufTy := match i / 128 with
  | 0 => hbmTy0_0 i
  | 1 => hbmTy0_1 i
  | 2 => hbmTy0_2 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_cst_2 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_c : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_c_1 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_call0_v0 : Ref sig .tc := ⟨.hbm, 35, rfl⟩
abbrev main_call0_call0_c : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_c_0 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_c_1 : Ref sig .tc := ⟨.hbm, 46, rfl⟩
abbrev main_call0_call0_v9 : Ref sig .tc := ⟨.hbm, 47, rfl⟩
abbrev main_call0_call0_v10 : Ref sig .tc := ⟨.hbm, 48, rfl⟩
abbrev main_call0_call0_v11 : Ref sig .tc := ⟨.hbm, 49, rfl⟩
abbrev main_call0_call0_v12 : Ref sig .tc := ⟨.hbm, 50, rfl⟩
abbrev main_call0_call0_v13 : Ref sig .tc := ⟨.hbm, 51, rfl⟩
abbrev main_call0_call0_c_2 : Ref sig .tc := ⟨.hbm, 52, rfl⟩
abbrev main_call0_call0_v14 : Ref sig .tc := ⟨.hbm, 53, rfl⟩
abbrev main_call0_call0_v15 : Ref sig .tc := ⟨.hbm, 54, rfl⟩
abbrev main_call0_call0_c_3 : Ref sig .tc := ⟨.hbm, 55, rfl⟩
abbrev main_call0_call0_v16 : Ref sig .tc := ⟨.hbm, 56, rfl⟩
abbrev main_call0_call0_v17 : Ref sig .tc := ⟨.hbm, 57, rfl⟩
abbrev main_call0_call0_v18 : Ref sig .tc := ⟨.hbm, 58, rfl⟩
abbrev main_call0_call0_v19 : Ref sig .tc := ⟨.hbm, 59, rfl⟩
abbrev main_call0_call0_v20 : Ref sig .tc := ⟨.hbm, 60, rfl⟩
abbrev main_call0_call0_c_4 : Ref sig .tc := ⟨.hbm, 61, rfl⟩
abbrev main_call0_call0_v21 : Ref sig .tc := ⟨.hbm, 62, rfl⟩
abbrev main_call0_call0_v22 : Ref sig .tc := ⟨.hbm, 63, rfl⟩
abbrev main_call0_call0_c_5 : Ref sig .tc := ⟨.hbm, 64, rfl⟩
abbrev main_call0_call0_v23 : Ref sig .tc := ⟨.hbm, 65, rfl⟩
abbrev main_call0_call0_v24 : Ref sig .tc := ⟨.hbm, 66, rfl⟩
abbrev main_call0_call0_v25 : Ref sig .tc := ⟨.hbm, 67, rfl⟩
abbrev main_call0_call0_v26 : Ref sig .tc := ⟨.hbm, 68, rfl⟩
abbrev main_call0_call0_v27 : Ref sig .tc := ⟨.hbm, 69, rfl⟩
abbrev main_call0_call0_c_6 : Ref sig .tc := ⟨.hbm, 70, rfl⟩
abbrev main_call0_call0_v28 : Ref sig .tc := ⟨.hbm, 71, rfl⟩
abbrev main_call0_call0_v29 : Ref sig .tc := ⟨.hbm, 72, rfl⟩
abbrev main_call0_call0_c_7 : Ref sig .tc := ⟨.hbm, 73, rfl⟩
abbrev main_call0_call0_v30 : Ref sig .tc := ⟨.hbm, 74, rfl⟩
abbrev main_call0_call0_v31 : Ref sig .tc := ⟨.hbm, 75, rfl⟩
abbrev main_call0_call0_v32 : Ref sig .tc := ⟨.hbm, 76, rfl⟩
abbrev main_call0_call0_v33 : Ref sig .tc := ⟨.hbm, 77, rfl⟩
abbrev main_call0_call0_v34 : Ref sig .tc := ⟨.hbm, 78, rfl⟩
abbrev main_call0_call0_v35 : Ref sig .tc := ⟨.hbm, 79, rfl⟩
abbrev main_call0_call0_v36 : Ref sig .tc := ⟨.hbm, 80, rfl⟩
abbrev main_call0_call0_v37 : Ref sig .tc := ⟨.hbm, 81, rfl⟩
abbrev main_call0_call0_c_8 : Ref sig .tc := ⟨.hbm, 82, rfl⟩
abbrev main_call0_call0_v38 : Ref sig .tc := ⟨.hbm, 83, rfl⟩
abbrev main_call0_call0_v39 : Ref sig .tc := ⟨.hbm, 84, rfl⟩
abbrev main_call0_call0_v40 : Ref sig .tc := ⟨.hbm, 85, rfl⟩
abbrev main_call0_call0_c_9 : Ref sig .tc := ⟨.hbm, 86, rfl⟩
abbrev main_call0_call0_v41 : Ref sig .tc := ⟨.hbm, 87, rfl⟩
abbrev main_call0_call0_v42 : Ref sig .tc := ⟨.hbm, 88, rfl⟩
abbrev main_call0_call0_c_10 : Ref sig .tc := ⟨.hbm, 89, rfl⟩
abbrev main_call0_call0_v43 : Ref sig .tc := ⟨.hbm, 90, rfl⟩
abbrev main_call0_call0_v44 : Ref sig .tc := ⟨.hbm, 91, rfl⟩
abbrev main_call0_call0_v45 : Ref sig .tc := ⟨.hbm, 92, rfl⟩
abbrev main_call0_call0_v46 : Ref sig .tc := ⟨.hbm, 93, rfl⟩
abbrev main_call0_call0_v47 : Ref sig .tc := ⟨.hbm, 94, rfl⟩
abbrev main_call0_call0_c_11 : Ref sig .tc := ⟨.hbm, 95, rfl⟩
abbrev main_call0_call0_v48 : Ref sig .tc := ⟨.hbm, 96, rfl⟩
abbrev main_call0_call0_v49 : Ref sig .tc := ⟨.hbm, 97, rfl⟩
abbrev main_call0_call0_c_12 : Ref sig .tc := ⟨.hbm, 98, rfl⟩
abbrev main_call0_call0_v50 : Ref sig .tc := ⟨.hbm, 99, rfl⟩
abbrev main_call0_call0_v51 : Ref sig .tc := ⟨.hbm, 100, rfl⟩
abbrev main_call0_call0_v52 : Ref sig .tc := ⟨.hbm, 101, rfl⟩
abbrev main_call0_call0_v53 : Ref sig .tc := ⟨.hbm, 102, rfl⟩
abbrev main_call0_call0_v54 : Ref sig .tc := ⟨.hbm, 103, rfl⟩
abbrev main_call0_call0_c_13 : Ref sig .tc := ⟨.hbm, 104, rfl⟩
abbrev main_call0_call0_v55 : Ref sig .tc := ⟨.hbm, 105, rfl⟩
abbrev main_call0_call0_v56 : Ref sig .tc := ⟨.hbm, 106, rfl⟩
abbrev main_call0_call0_c_14 : Ref sig .tc := ⟨.hbm, 107, rfl⟩
abbrev main_call0_call0_v57 : Ref sig .tc := ⟨.hbm, 108, rfl⟩
abbrev main_call0_call0_v58 : Ref sig .tc := ⟨.hbm, 109, rfl⟩
abbrev main_call0_call0_v59 : Ref sig .tc := ⟨.hbm, 110, rfl⟩
abbrev main_call0_call0_v60 : Ref sig .tc := ⟨.hbm, 111, rfl⟩
abbrev main_call0_call0_v61 : Ref sig .tc := ⟨.hbm, 112, rfl⟩
abbrev main_call0_call0_c_15 : Ref sig .tc := ⟨.hbm, 113, rfl⟩
abbrev main_call0_call0_v62 : Ref sig .tc := ⟨.hbm, 114, rfl⟩
abbrev main_call0_call0_v63 : Ref sig .tc := ⟨.hbm, 115, rfl⟩
abbrev main_call0_call0_c_16 : Ref sig .tc := ⟨.hbm, 116, rfl⟩
abbrev main_call0_call0_v64 : Ref sig .tc := ⟨.hbm, 117, rfl⟩
abbrev main_call0_call0_v65 : Ref sig .tc := ⟨.hbm, 118, rfl⟩
abbrev main_call0_call0_v66 : Ref sig .tc := ⟨.hbm, 119, rfl⟩
abbrev main_call0_call0_v67 : Ref sig .tc := ⟨.hbm, 120, rfl⟩
abbrev main_call0_call0_v68 : Ref sig .tc := ⟨.hbm, 121, rfl⟩
abbrev main_call0_call0_v69 : Ref sig .tc := ⟨.hbm, 122, rfl⟩
abbrev main_call0_call0_v70 : Ref sig .tc := ⟨.hbm, 123, rfl⟩
abbrev main_call0_call0_v71 : Ref sig .tc := ⟨.hbm, 124, rfl⟩
abbrev main_call0_call0_c_17 : Ref sig .tc := ⟨.hbm, 125, rfl⟩
abbrev main_call0_call0_v72 : Ref sig .tc := ⟨.hbm, 126, rfl⟩
abbrev main_call0_call0_v73 : Ref sig .tc := ⟨.hbm, 127, rfl⟩
abbrev main_call0_call0_v74 : Ref sig .tc := ⟨.hbm, 128, rfl⟩
abbrev main_call0_call0_c_18 : Ref sig .tc := ⟨.hbm, 129, rfl⟩
abbrev main_call0_call0_v75 : Ref sig .tc := ⟨.hbm, 130, rfl⟩
abbrev main_call0_call0_v76 : Ref sig .tc := ⟨.hbm, 131, rfl⟩
abbrev main_call0_call0_c_19 : Ref sig .tc := ⟨.hbm, 132, rfl⟩
abbrev main_call0_call0_v77 : Ref sig .tc := ⟨.hbm, 133, rfl⟩
abbrev main_call0_call0_v78 : Ref sig .tc := ⟨.hbm, 134, rfl⟩
abbrev main_call0_call0_v79 : Ref sig .tc := ⟨.hbm, 135, rfl⟩
abbrev main_call0_call0_v80 : Ref sig .tc := ⟨.hbm, 136, rfl⟩
abbrev main_call0_call0_v81 : Ref sig .tc := ⟨.hbm, 137, rfl⟩
abbrev main_call0_call0_c_20 : Ref sig .tc := ⟨.hbm, 138, rfl⟩
abbrev main_call0_call0_v82 : Ref sig .tc := ⟨.hbm, 139, rfl⟩
abbrev main_call0_call0_v83 : Ref sig .tc := ⟨.hbm, 140, rfl⟩
abbrev main_call0_call0_c_21 : Ref sig .tc := ⟨.hbm, 141, rfl⟩
abbrev main_call0_call0_v84 : Ref sig .tc := ⟨.hbm, 142, rfl⟩
abbrev main_call0_call0_v85 : Ref sig .tc := ⟨.hbm, 143, rfl⟩
abbrev main_call0_call0_v86 : Ref sig .tc := ⟨.hbm, 144, rfl⟩
abbrev main_call0_call0_v87 : Ref sig .tc := ⟨.hbm, 145, rfl⟩
abbrev main_call0_call0_v88 : Ref sig .tc := ⟨.hbm, 146, rfl⟩
abbrev main_call0_call0_c_22 : Ref sig .tc := ⟨.hbm, 147, rfl⟩
abbrev main_call0_call0_v89 : Ref sig .tc := ⟨.hbm, 148, rfl⟩
abbrev main_call0_call0_v90 : Ref sig .tc := ⟨.hbm, 149, rfl⟩
abbrev main_call0_call0_c_23 : Ref sig .tc := ⟨.hbm, 150, rfl⟩
abbrev main_call0_call0_v91 : Ref sig .tc := ⟨.hbm, 151, rfl⟩
abbrev main_call0_call0_v92 : Ref sig .tc := ⟨.hbm, 152, rfl⟩
abbrev main_call0_call0_v93 : Ref sig .tc := ⟨.hbm, 153, rfl⟩
abbrev main_call0_call0_v94 : Ref sig .tc := ⟨.hbm, 154, rfl⟩
abbrev main_call0_call0_v95 : Ref sig .tc := ⟨.hbm, 155, rfl⟩
abbrev main_call0_call0_c_24 : Ref sig .tc := ⟨.hbm, 156, rfl⟩
abbrev main_call0_call0_v96 : Ref sig .tc := ⟨.hbm, 157, rfl⟩
abbrev main_call0_call0_v97 : Ref sig .tc := ⟨.hbm, 158, rfl⟩
abbrev main_call0_call0_c_25 : Ref sig .tc := ⟨.hbm, 159, rfl⟩
abbrev main_call0_call0_v98 : Ref sig .tc := ⟨.hbm, 160, rfl⟩
abbrev main_call0_call0_v99 : Ref sig .tc := ⟨.hbm, 161, rfl⟩
abbrev main_call0_call0_v100 : Ref sig .tc := ⟨.hbm, 162, rfl⟩
abbrev main_call0_call0_v101 : Ref sig .tc := ⟨.hbm, 163, rfl⟩
abbrev main_call0_call0_v102 : Ref sig .tc := ⟨.hbm, 164, rfl⟩
abbrev main_call0_call0_v103 : Ref sig .tc := ⟨.hbm, 165, rfl⟩
abbrev main_call0_call0_v104 : Ref sig .tc := ⟨.hbm, 166, rfl⟩
abbrev main_call0_call0_v105 : Ref sig .tc := ⟨.hbm, 167, rfl⟩
abbrev main_call0_call0_c_26 : Ref sig .tc := ⟨.hbm, 168, rfl⟩
abbrev main_call0_call0_v106 : Ref sig .tc := ⟨.hbm, 169, rfl⟩
abbrev main_call0_call0_v107 : Ref sig .tc := ⟨.hbm, 170, rfl⟩
abbrev main_call0_call0_v108 : Ref sig .tc := ⟨.hbm, 171, rfl⟩
abbrev main_call0_call0_c_27 : Ref sig .tc := ⟨.hbm, 172, rfl⟩
abbrev main_call0_call0_v109 : Ref sig .tc := ⟨.hbm, 173, rfl⟩
abbrev main_call0_call0_v110 : Ref sig .tc := ⟨.hbm, 174, rfl⟩
abbrev main_call0_call0_c_28 : Ref sig .tc := ⟨.hbm, 175, rfl⟩
abbrev main_call0_call0_v111 : Ref sig .tc := ⟨.hbm, 176, rfl⟩
abbrev main_call0_call0_v112 : Ref sig .tc := ⟨.hbm, 177, rfl⟩
abbrev main_call0_call0_v113 : Ref sig .tc := ⟨.hbm, 178, rfl⟩
abbrev main_call0_call0_v114 : Ref sig .tc := ⟨.hbm, 179, rfl⟩
abbrev main_call0_call0_v115 : Ref sig .tc := ⟨.hbm, 180, rfl⟩
abbrev main_call0_call0_c_29 : Ref sig .tc := ⟨.hbm, 181, rfl⟩
abbrev main_call0_call0_v116 : Ref sig .tc := ⟨.hbm, 182, rfl⟩
abbrev main_call0_call0_v117 : Ref sig .tc := ⟨.hbm, 183, rfl⟩
abbrev main_call0_call0_c_30 : Ref sig .tc := ⟨.hbm, 184, rfl⟩
abbrev main_call0_call0_v118 : Ref sig .tc := ⟨.hbm, 185, rfl⟩
abbrev main_call0_call0_v119 : Ref sig .tc := ⟨.hbm, 186, rfl⟩
abbrev main_call0_call0_v120 : Ref sig .tc := ⟨.hbm, 187, rfl⟩
abbrev main_call0_call0_v121 : Ref sig .tc := ⟨.hbm, 188, rfl⟩
abbrev main_call0_call0_v122 : Ref sig .tc := ⟨.hbm, 189, rfl⟩
abbrev main_call0_call0_c_31 : Ref sig .tc := ⟨.hbm, 190, rfl⟩
abbrev main_call0_call0_v123 : Ref sig .tc := ⟨.hbm, 191, rfl⟩
abbrev main_call0_call0_v124 : Ref sig .tc := ⟨.hbm, 192, rfl⟩
abbrev main_call0_call0_c_32 : Ref sig .tc := ⟨.hbm, 193, rfl⟩
abbrev main_call0_call0_v125 : Ref sig .tc := ⟨.hbm, 194, rfl⟩
abbrev main_call0_call0_v126 : Ref sig .tc := ⟨.hbm, 195, rfl⟩
abbrev main_call0_call0_v127 : Ref sig .tc := ⟨.hbm, 196, rfl⟩
abbrev main_call0_call0_v128 : Ref sig .tc := ⟨.hbm, 197, rfl⟩
abbrev main_call0_call0_v129 : Ref sig .tc := ⟨.hbm, 198, rfl⟩
abbrev main_call0_call0_c_33 : Ref sig .tc := ⟨.hbm, 199, rfl⟩
abbrev main_call0_call0_v130 : Ref sig .tc := ⟨.hbm, 200, rfl⟩
abbrev main_call0_call0_v131 : Ref sig .tc := ⟨.hbm, 201, rfl⟩
abbrev main_call0_call0_c_34 : Ref sig .tc := ⟨.hbm, 202, rfl⟩
abbrev main_call0_call0_v132 : Ref sig .tc := ⟨.hbm, 203, rfl⟩
abbrev main_call0_call0_v133 : Ref sig .tc := ⟨.hbm, 204, rfl⟩
abbrev main_call0_call0_v134 : Ref sig .tc := ⟨.hbm, 205, rfl⟩
abbrev main_call0_call0_v135 : Ref sig .tc := ⟨.hbm, 206, rfl⟩
abbrev main_call0_call0_v136 : Ref sig .tc := ⟨.hbm, 207, rfl⟩
abbrev main_call0_call0_v137 : Ref sig .tc := ⟨.hbm, 208, rfl⟩
abbrev main_call0_call0_v138 : Ref sig .tc := ⟨.hbm, 209, rfl⟩
abbrev main_call0_call0_v139 : Ref sig .tc := ⟨.hbm, 210, rfl⟩
abbrev main_call0_call0_c_35 : Ref sig .tc := ⟨.hbm, 211, rfl⟩
abbrev main_call0_call0_v140 : Ref sig .tc := ⟨.hbm, 212, rfl⟩
abbrev main_call0_call0_v141 : Ref sig .tc := ⟨.hbm, 213, rfl⟩
abbrev main_call0_call0_v142 : Ref sig .tc := ⟨.hbm, 214, rfl⟩
abbrev main_call0_call0_c_36 : Ref sig .tc := ⟨.hbm, 215, rfl⟩
abbrev main_call0_call0_v143 : Ref sig .tc := ⟨.hbm, 216, rfl⟩
abbrev main_call0_call0_v144 : Ref sig .tc := ⟨.hbm, 217, rfl⟩
abbrev main_call0_call0_c_37 : Ref sig .tc := ⟨.hbm, 218, rfl⟩
abbrev main_call0_call0_v145 : Ref sig .tc := ⟨.hbm, 219, rfl⟩
abbrev main_call0_call0_v146 : Ref sig .tc := ⟨.hbm, 220, rfl⟩
abbrev main_call0_call0_v147 : Ref sig .tc := ⟨.hbm, 221, rfl⟩
abbrev main_call0_call0_v148 : Ref sig .tc := ⟨.hbm, 222, rfl⟩
abbrev main_call0_call0_v149 : Ref sig .tc := ⟨.hbm, 223, rfl⟩
abbrev main_call0_call0_c_38 : Ref sig .tc := ⟨.hbm, 224, rfl⟩
abbrev main_call0_call0_v150 : Ref sig .tc := ⟨.hbm, 225, rfl⟩
abbrev main_call0_call0_v151 : Ref sig .tc := ⟨.hbm, 226, rfl⟩
abbrev main_call0_call0_c_39 : Ref sig .tc := ⟨.hbm, 227, rfl⟩
abbrev main_call0_call0_v152 : Ref sig .tc := ⟨.hbm, 228, rfl⟩
abbrev main_call0_call0_v153 : Ref sig .tc := ⟨.hbm, 229, rfl⟩
abbrev main_call0_call0_v154 : Ref sig .tc := ⟨.hbm, 230, rfl⟩
abbrev main_call0_call0_v155 : Ref sig .tc := ⟨.hbm, 231, rfl⟩
abbrev main_call0_call0_v156 : Ref sig .tc := ⟨.hbm, 232, rfl⟩
abbrev main_call0_call0_c_40 : Ref sig .tc := ⟨.hbm, 233, rfl⟩
abbrev main_call0_call0_v157 : Ref sig .tc := ⟨.hbm, 234, rfl⟩
abbrev main_call0_call0_v158 : Ref sig .tc := ⟨.hbm, 235, rfl⟩
abbrev main_call0_call0_c_41 : Ref sig .tc := ⟨.hbm, 236, rfl⟩
abbrev main_call0_call0_v159 : Ref sig .tc := ⟨.hbm, 237, rfl⟩
abbrev main_call0_call0_v160 : Ref sig .tc := ⟨.hbm, 238, rfl⟩
abbrev main_call0_call0_v161 : Ref sig .tc := ⟨.hbm, 239, rfl⟩
abbrev main_call0_call0_v162 : Ref sig .tc := ⟨.hbm, 240, rfl⟩
abbrev main_call0_call0_v163 : Ref sig .tc := ⟨.hbm, 241, rfl⟩
abbrev main_call0_call0_c_42 : Ref sig .tc := ⟨.hbm, 242, rfl⟩
abbrev main_call0_call0_v164 : Ref sig .tc := ⟨.hbm, 243, rfl⟩
abbrev main_call0_call0_v165 : Ref sig .tc := ⟨.hbm, 244, rfl⟩
abbrev main_call0_call0_c_43 : Ref sig .tc := ⟨.hbm, 245, rfl⟩
abbrev main_call0_call0_v166 : Ref sig .tc := ⟨.hbm, 246, rfl⟩
abbrev main_call0_call0_v167 : Ref sig .tc := ⟨.hbm, 247, rfl⟩
abbrev main_call0_call0_v168 : Ref sig .tc := ⟨.hbm, 248, rfl⟩
abbrev main_call0_call0_v169 : Ref sig .tc := ⟨.hbm, 249, rfl⟩
abbrev main_call0_call0_v170 : Ref sig .tc := ⟨.hbm, 250, rfl⟩
abbrev main_call0_v19_0 : Ref sig .tc := ⟨.hbm, 251, rfl⟩
abbrev main_call0_call0_v172 : Ref sig .tc := ⟨.hbm, 252, rfl⟩
abbrev main_call0_call0_v173 : Ref sig .tc := ⟨.hbm, 253, rfl⟩
abbrev main_call0_call0_c_44 : Ref sig .tc := ⟨.hbm, 254, rfl⟩
abbrev main_call0_call0_v174 : Ref sig .tc := ⟨.hbm, 255, rfl⟩
abbrev main_call0_v19_1 : Ref sig .tc := ⟨.hbm, 256, rfl⟩
abbrev main_call0_v20 : Ref sig .tc := ⟨.hbm, 257, rfl⟩
abbrev main_call0_c_2 : Ref sig .tc := ⟨.hbm, 258, rfl⟩
abbrev main_call0_v21 : Ref sig .tc := ⟨.hbm, 259, rfl⟩
abbrev main_call0_v22 : Ref sig .tc := ⟨.hbm, 260, rfl⟩
abbrev main_call0_c_3 : Ref sig .tc := ⟨.hbm, 261, rfl⟩
abbrev main_call0_v23 : Ref sig .tc := ⟨.hbm, 262, rfl⟩
abbrev main_call0_v24 : Ref sig .tc := ⟨.hbm, 263, rfl⟩
abbrev main_call0_v25 : Ref sig .tc := ⟨.hbm, 264, rfl⟩
abbrev main_call0_cst : Ref sig .tc := ⟨.hbm, 265, rfl⟩
abbrev main_call0_v26 : Ref sig .tc := ⟨.hbm, 266, rfl⟩
abbrev main_call0_v27 : Ref sig .tc := ⟨.hbm, 267, rfl⟩
abbrev main_call0_v28 : Ref sig .tc := ⟨.hbm, 268, rfl⟩
abbrev main_call0_v29 : Ref sig .tc := ⟨.hbm, 269, rfl⟩
abbrev main_call0_v30 : Ref sig .tc := ⟨.hbm, 270, rfl⟩
abbrev main_call0_v31 : Ref sig .tc := ⟨.hbm, 271, rfl⟩
abbrev main_call0_v32 : Ref sig .tc := ⟨.hbm, 272, rfl⟩
abbrev main_call0_v33 : Ref sig .tc := ⟨.hbm, 273, rfl⟩
abbrev main_v7 : Ref sig .tc := ⟨.hbm, 274, rfl⟩
abbrev main_cst_3 : Ref sig .tc := ⟨.hbm, 275, rfl⟩
abbrev main_v8 : Ref sig .tc := ⟨.hbm, 276, rfl⟩
abbrev main_v9 : Ref sig .tc := ⟨.hbm, 277, rfl⟩
abbrev main_v10 : Ref sig .tc := ⟨.hbm, 278, rfl⟩
abbrev main_v11 : Ref sig .tc := ⟨.hbm, 279, rfl⟩
abbrev main_cst_4 : Ref sig .tc := ⟨.hbm, 280, rfl⟩
abbrev main_v12 : Ref sig .tc := ⟨.hbm, 281, rfl⟩
abbrev main_v13 : Ref sig .tc := ⟨.hbm, 282, rfl⟩
abbrev main_v14 : Ref sig .tc := ⟨.hbm, 283, rfl⟩
abbrev main_v15 : Ref sig .tc := ⟨.hbm, 284, rfl⟩
abbrev main_v16 : Ref sig .tc := ⟨.hbm, 285, rfl⟩
abbrev main_cst_5 : Ref sig .tc := ⟨.hbm, 286, rfl⟩
abbrev main_v17 : Ref sig .tc := ⟨.hbm, 287, rfl⟩
abbrev main_v18 : Ref sig .tc := ⟨.hbm, 288, rfl⟩
abbrev main_cst_6 : Ref sig .tc := ⟨.hbm, 289, rfl⟩
abbrev main_v19 : Ref sig .tc := ⟨.hbm, 290, rfl⟩
abbrev main_cst_7 : Ref sig .tc := ⟨.hbm, 291, rfl⟩
abbrev main_v20 : Ref sig .tc := ⟨.hbm, 292, rfl⟩
abbrev main_v21 : Ref sig .tc := ⟨.hbm, 293, rfl⟩
abbrev main_v22 : Ref sig .tc := ⟨.hbm, 294, rfl⟩
abbrev main_v23 : Ref sig .tc := ⟨.hbm, 295, rfl⟩
abbrev main_v24 : Ref sig .tc := ⟨.hbm, 296, rfl⟩
abbrev main_v25 : Ref sig .tc := ⟨.hbm, 297, rfl⟩
abbrev main_cst_8 : Ref sig .tc := ⟨.hbm, 298, rfl⟩
abbrev main_v26 : Ref sig .tc := ⟨.hbm, 299, rfl⟩
abbrev main_v27 : Ref sig .tc := ⟨.hbm, 300, rfl⟩
abbrev main_v28 : Ref sig .tc := ⟨.hbm, 301, rfl⟩
abbrev main_v29 : Ref sig .tc := ⟨.hbm, 302, rfl⟩
abbrev main_call1_v0 : Ref sig .tc := ⟨.hbm, 303, rfl⟩
abbrev main_call1_cst : Ref sig .tc := ⟨.hbm, 304, rfl⟩
abbrev main_call1_c : Ref sig .tc := ⟨.hbm, 305, rfl⟩
abbrev main_call1_v1_0 : Ref sig .tc := ⟨.hbm, 306, rfl⟩
abbrev main_v30 : Ref sig .tc := ⟨.hbm, 307, rfl⟩
abbrev main_call2_v0 : Ref sig .tc := ⟨.hbm, 308, rfl⟩
abbrev main_call2_v1 : Ref sig .tc := ⟨.hbm, 309, rfl⟩
abbrev main_call2_v2 : Ref sig .tc := ⟨.hbm, 310, rfl⟩
abbrev main_call2_v3 : Ref sig .tc := ⟨.hbm, 311, rfl⟩
abbrev main_call2_v4 : Ref sig .tc := ⟨.hbm, 312, rfl⟩
abbrev main_v31 : Ref sig .tc := ⟨.hbm, 313, rfl⟩
abbrev main_v32 : Ref sig .tc := ⟨.hbm, 314, rfl⟩
abbrev main_v33 : Ref sig .tc := ⟨.hbm, 315, rfl⟩

abbrev nD : Nat := 1
abbrev τ : Topo := Topo.v7x

variable {F : FTy → Type} [FloatOps F]
-- ==== Proof.RefOps.lean ====
/-
  The reference's program as lists of host operations: its straight line, read off the printed bodies part by part.
-/
module

public import proofs.«01_k».proof.Proof.Gen.ReferenceIdeal
public import Idealize.ShloMosaic.Lib.StableHlo.RunHlo
public import Idealize.ShloMosaic.Lib.StableHlo.RunRead
public import Idealize.ShloMosaic.Lib.Pipeline.Frame

@[expose] public section

set_option maxRecDepth 16384

noncomputable section

namespace Cert.Proof.RefRun

open Cert.ReferenceIdeal
open Idealize.ShloMosaic Idealize.ShloMosaic.StableHlo Idealize.SL.Sem

variable {F : FTy → Type} [FloatOps F]

/-- A line of the reference's host operations. -/
abbrev Ops (F : FTy → Type) [FloatOps F] := List (HloOp τ sig (Elt F))

/-- Two straight lines one after the other are the straight line of the two lists one after the other. -/
theorem isSeq_append {Λ : Labels} {p k : Prog (TpuEff nD τ sig (Elt F) Λ .tc) PUnit} {l₁ l₂ : Ops F}
    (hp : IsSeq p l₁) (hk : IsSeq k l₂) : IsSeq (p >>= fun _ => k) (l₁ ++ l₂) := by
  unfold IsSeq at hp hk ⊢
  rw [hp, hk, seq_append]

/-- The operations of the generator's first part, with the proof that they are it; likewise `t1`, `t2`, `t3`. -/
def t0 : {l : Ops F // ∀ _ : Dev nD, IsSeq (nD := nD) (fn_threefry2x32.body_part0 main_call0.v5 main_call0.v7
    main_call0.v18 main_call0.v17 main_call0.call0) l} := by
  apply Subtype.mk; intro d; unfold fn_threefry2x32.body_part0; hlo_seq

/-- The generator's first part, as a list of operations. -/
def t1 : {l : Ops F // ∀ _ : Dev nD, IsSeq (nD := nD) (fn_threefry2x32.body_part1 main_call0.v5 main_call0.v7
    main_call0.v18 main_call0.v17 main_call0.call0) l} := by
  apply Subtype.mk; intro d; unfold fn_threefry2x32.body_part1; hlo_seq

/-- The generator's second part. -/
def t2 : {l : Ops F // ∀ _ : Dev nD, IsSeq (nD := nD) (fn_threefry2x32.body_part2 main_call0.v5 main_call0.v7
    main_call0.v18 main_call0.v17 main_call0.call0) l} := by
  apply Subtype.mk; intro d; unfold fn_threefry2x32.body_part2; hlo_seq

/-- The generator's third part. -/
def t3 : {l : Ops F // ∀ _ : Dev nD, IsSeq (nD := nD) (fn_threefry2x32.body_part3 main_call0.v5 main_call0.v7
    main_call0.v18 main_call0.v17 main_call0.call0) l} := by
  apply Subtype.mk; intro d; unfold fn_threefry2x32.body_part3; hlo_seq

/-- The operations of the generator's call. -/
abbrev tf : Ops F := t0.1 ++ (t1.1 ++ (t2.1 ++ t3.1))

/-- The generator's call is the line `tf`. -/
theorem tf_seq (_ : Dev nD) : IsSeq (nD := nD) (fn_threefry2x32.body main_call0.v5 main_call0.v7
    main_call0.v18 main_call0.v17 main_call0.call0) (tf (F := F)) :=
  isSeq_append (t0.2 0) (isSeq_append (t1.2 0) (isSeq_append (t2.2 0) (t3.2 0)))

/-- The operations of the draw of the uniform numbers. -/
def uni : {l : Ops F // ∀ _ : Dev nD, IsSeq (nD := nD) (fn_uniform.body (.of main_v6) (.of main_cst) (.of main_cst_2) main_call0) l} := by
  apply Subtype.mk; intro d; unfold fn_uniform.body
  iterate 22 apply IsSeq.cons
  apply isSeq_append (tf_seq d)
  hlo_seq

/-- The operations of the index of the largest entry. -/
def arg : {l : Ops F // ∀ _ : Dev nD, IsSeq (nD := nD) (fn_argmax.body (.of main_v29) main_call1) l} := by
  apply Subtype.mk; intro d; unfold fn_argmax.body; hlo_seq

/-- The operations of the one-hot rows. -/
def hot : {l : Ops F // ∀ _ : Dev nD, IsSeq (nD := nD) (fn_one_hot.body (.of main_v30) main_call2) l} := by
  apply Subtype.mk; intro d; unfold fn_one_hot.body; hlo_seq

/-- The operations of the whole reference. -/
def all : {l : Ops F // ∀ d : Dev nD, IsSeq (main d) l} := by
  apply Subtype.mk; intro d; unfold main
  iterate 12 apply IsSeq.cons
  apply isSeq_append (uni.2 d)
  iterate 28 apply IsSeq.cons
  apply isSeq_append (arg.2 d)
  apply isSeq_append (hot.2 d)
  hlo_seq

/-- Before the generator's call. -/
abbrev l0 : Ops F := all.1.take 34
/-- From the generator's two words to the softmax. -/
abbrev l1 : Ops F := (all.1.drop 256).take 46
/-- From the one-hot rows to the result. -/
abbrev l2 : Ops F := all.1.drop 313

/-- The whole line, cut. -/
theorem all_eq : (all (F := F)).1 = l0 ++ (tf ++ (l1 ++ (arg.1 ++ (hot.1 ++ l2)))) := by
  rfl

end Cert.Proof.RefRun
-- ==== Proof.Words.lean ====
/-
  The counter-based generator on one pair of words: rounds of add, rotate and xor, with key words added between groups.
-/
module

public import Idealize.ShloMosaic.PureOps.Vector

@[expose] public section

namespace Cert.Proof.Words

/-- A machine word. -/
abbrev W := BitVec 32

/-- The second half of a round: the second word rotated (`r` left, `s` right, adding up to 32) and xored into the first. -/
def half (r s : W) (p : W × W) : W × W := (p.1, p.1 ^^^ (p.2 <<< r ||| p.2 >>> s))

/-- A round: the words added, then the rotation and the xor. -/
def turn (r s : W) (p : W × W) : W × W := half r s (p.1 + p.2, p.2)

/-- Four rounds of the first kind. -/
def groupA (p : W × W) : W × W :=
  turn 6#32 26#32 (turn 26#32 6#32 (turn 15#32 17#32 (turn 13#32 19#32 p)))

/-- Four rounds of the second kind. -/
def groupB (p : W × W) : W × W :=
  turn 24#32 8#32 (turn 16#32 16#32 (turn 29#32 3#32 (turn 17#32 15#32 p)))

/-- The key words `a` and `b` and the counter `n` of the group added. -/
def inject (a b n : W) (p : W × W) : W × W := (p.1 + a, p.2 + b + n)

/-- The generator's third key word. -/
def third (k₀ k₁ : W) : W := k₀ ^^^ k₁ ^^^ 466688986#32

/-- The generator: the pair of words of key `(k₀, k₁)` at counter `(c₀, c₁)`. -/
def gen (k₀ k₁ c₀ c₁ : W) : W × W :=
  inject (third k₀ k₁) k₀ 5#32 (groupA (inject k₁ (third k₀ k₁) 4#32 (groupB (inject k₀ k₁ 3#32 (groupA
    (inject (third k₀ k₁) k₀ 2#32 (groupB (inject k₁ (third k₀ k₁) 1#32 (groupA (c₀ + k₀, c₁ + k₁))))))))))

end Cert.Proof.Words
-- ==== Proof.Table.lean ====
/-
  The counter-based generator on whole tables of words, one round after another, and its words one index at a time.
-/
module

public import proofs.«01_k».proof.Proof.Gen.ReferenceIdeal
public import proofs.«01_k».proof.Proof.Words

@[expose] public section

noncomputable section

namespace Cert.Proof.Table

open Cert.ReferenceIdeal Cert.ReferenceIdeal.Facts₀
open Cert.Proof.Words
open Idealize.ShloMosaic

/-- A table of words, and a single word. -/
abbrev T := IVec S128x100000 32

/-- A single word. -/
abbrev S := IVec S_ 32

/-- A single word spread over the table. -/
abbrev bc (x : S) : T := broadcastInDim S128x100000 ![] bcast_S_S128x100000 x

/-- A constant table. -/
abbrev lit (w : W) : T := bc (constantI S_ 32 w)

/-- The second half of a round on tables. -/
def halfT (r s : W) (p : T × T) : T × T := (p.1, xori p.1 (ori (Host.shli p.2 (lit r)) (Host.shrui p.2 (lit s))))

/-- The sum that opens a round, on tables. -/
def openT (p : T × T) : T × T := (addi p.1 p.2, p.2)

/-- A round on tables. -/
def turnT (r s : W) (p : T × T) : T × T := halfT r s (openT p)

/-- The key words and the group's counter added, on tables. -/
def injectT (a b : S) (n : W) (p : T × T) : T × T := (addi p.1 (bc a), addi (addi p.2 (bc b)) (lit n))

/-- The third key word, on single words. -/
def thirdT (a b : S) : S := xori (xori a b) (constantI S_ 32 466688986#32)

/-- The first key words added to the counters, on tables. -/
def startT (a b : S) (x y : T) : T × T := (addi x (bc a), addi y (bc b))

/-- Four rounds of the first kind on tables. -/
def groupAT (p : T × T) : T × T :=
  turnT 6#32 26#32 (turnT 26#32 6#32 (turnT 15#32 17#32 (turnT 13#32 19#32 p)))

/-- Four rounds of the second kind on tables. -/
def groupBT (p : T × T) : T × T :=
  turnT 24#32 8#32 (turnT 16#32 16#32 (turnT 29#32 3#32 (turnT 17#32 15#32 p)))

/-- The generator on tables of counters. -/
def genT (a b : S) (x y : T) : T × T :=
  injectT (thirdT a b) a 5#32 (groupAT (injectT b (thirdT a b) 4#32 (groupBT (injectT a b 3#32 (groupAT
    (injectT (thirdT a b) a 2#32 (groupBT (injectT b (thirdT a b) 1#32 (groupAT (startT a b x y))))))))))

/-- The pair of words a pair of tables holds at an index. -/
def wordAt (p : T × T) (i : S128x100000.Idx) : W × W := (p.1 i, p.2 i)

/-- The only index of a single word. -/
abbrev o : S_.Idx := fun a => a.elim0

/-- A spread word is that word at every entry. -/
theorem bc_at (x : S) (i : S128x100000.Idx) : bc x i = x o := by
  unfold bc broadcastInDim
  exact congrArg x (funext fun a => a.elim0)

/-- So is a literal. -/
theorem lit_at (w : W) (i : S128x100000.Idx) : lit w i = w := rfl

/-- A round on tables is the round on words, entry by entry. -/
theorem turnT_at (r s : W) (hr : r.toNat < 32) (hs : s.toNat < 32) (p : T × T) (i : S128x100000.Idx) :
    wordAt (turnT r s p) i = turn r s (wordAt p i) := by
  refine Prod.ext rfl ?_
  show (p.1 i + p.2 i) ^^^ ((if r.toNat < 32 then _ else _) ||| (if s.toNat < 32 then _ else _)) = _
  rw [if_pos hr, if_pos hs]
  rfl

/-- A key addition on tables is that on words, entry by entry. -/
theorem injectT_at (a b : S) (n : W) (p : T × T) (i : S128x100000.Idx) :
    wordAt (injectT a b n p) i = inject (a o) (b o) n (wordAt p i) := by
  refine Prod.ext ?_ ?_
  · show p.1 i + bc a i = _
    rw [bc_at]; rfl
  · show p.2 i + bc b i + lit n i = _
    rw [bc_at, lit_at]; rfl

/-- The first key addition on tables, entry by entry. -/
theorem startT_at (a b : S) (x y : T) (i : S128x100000.Idx) :
    wordAt (startT a b x y) i = (x i + a o, y i + b o) := by
  refine Prod.ext ?_ ?_
  · show x i + bc a i = _
    rw [bc_at]
  · show y i + bc b i = _
    rw [bc_at]

/-- The first kind of four rounds on tables, entry by entry. -/
theorem groupAT_at (p : T × T) (i : S128x100000.Idx) : wordAt (groupAT p) i = groupA (wordAt p i) := by
  unfold groupAT groupA
  rw [turnT_at _ _ (by decide) (by decide), turnT_at _ _ (by decide) (by decide),
    turnT_at _ _ (by decide) (by decide), turnT_at _ _ (by decide) (by decide)]

/-- The second kind of four rounds on tables, entry by entry. -/
theorem groupBT_at (p : T × T) (i : S128x100000.Idx) : wordAt (groupBT p) i = groupB (wordAt p i) := by
  unfold groupBT groupB
  rw [turnT_at _ _ (by decide) (by decide), turnT_at _ _ (by decide) (by decide),
    turnT_at _ _ (by decide) (by decide), turnT_at _ _ (by decide) (by decide)]

/-- The generator's tables hold, at every index, the generator's words of the counters there. -/
theorem genT_at (a b : S) (x y : T) (i : S128x100000.Idx) :
    wordAt (genT a b x y) i = gen (a o) (b o) (x i) (y i) := by
  unfold genT gen
  rw [injectT_at, groupAT_at, injectT_at, groupBT_at, injectT_at, groupAT_at, injectT_at, groupBT_at, injectT_at,
    groupAT_at, startT_at]
  rfl

end Cert.Proof.Table
-- ==== Proof.RefWords.lean ====
/-
  What the reference's generator leaves in its buffers: the generator's tables of the keys and counters it finds.
-/
module

public import proofs.«01_k».proof.Proof.RefOps
public import proofs.«01_k».proof.Proof.Table

@[expose] public section

set_option maxRecDepth 16384

noncomputable section

namespace Cert.Proof.RefRun

open Cert.ReferenceIdeal
open Cert.Proof.Table
open Idealize.ShloMosaic Idealize.ShloMosaic.StableHlo Idealize.SL.Sem

variable {F : FTy → Type} [FloatOps F]

/-- The contents of a buffer of the reference. -/
abbrev at_ (V : Valuation τ sig (Elt F)) (b : Ref sig .tc) := V (Proc.devRef (τ := τ) .tc b)

/-- The key words the generator finds, its third key word, and its counters. -/
abbrev k0 (V : Valuation τ sig (Elt F)) : S := at_ V main_call0_v5
abbrev k1 (V : Valuation τ sig (Elt F)) : S := at_ V main_call0_v7
abbrev k2 (V : Valuation τ sig (Elt F)) : S := at_ V main_call0_call0_v1
abbrev c0 (V : Valuation τ sig (Elt F)) : T := at_ V main_call0_v18
abbrev c1 (V : Valuation τ sig (Elt F)) : T := at_ V main_call0_v17
/-- The pairs of tables that one part of the generator hands to the next, and the pair it returns. -/
abbrev p0 (V : Valuation τ sig (Elt F)) : T × T := (at_ V main_call0_call0_v47, at_ V main_call0_call0_v46)
abbrev p1 (V : Valuation τ sig (Elt F)) : T × T := (at_ V main_call0_call0_v88, at_ V main_call0_call0_v94)
abbrev p2 (V : Valuation τ sig (Elt F)) : T × T := (at_ V main_call0_call0_v142, at_ V main_call0_call0_v141)
abbrev p3 (V : Valuation τ sig (Elt F)) : T × T := (at_ V main_call0_v19_0, at_ V main_call0_v19_1)

variable (V : Valuation τ sig (Elt F))

/-- A part of the generator leaves the key words alone. -/
theorem t0_keys : k0 (after t0.1 V) = k0 V ∧ k1 (after t0.1 V) = k1 V ∧ k2 (after t0.1 V) = thirdT (k0 V) (k1 V) := by
  refine ⟨?_, ?_, ?_⟩
  · unfold k0 at_ t0
    after_reads_simp
  · unfold k1 at_ t0
    after_reads_simp
  · unfold k2 at_ t0
    after_reads_simp
    simp only [TRef.ofBuf_toBuf]
    rfl

/-- The first part leaves the key words as they were. -/
theorem t1_keys : k0 (after t1.1 V) = k0 V ∧ k1 (after t1.1 V) = k1 V ∧ k2 (after t1.1 V) = k2 V := by
  refine ⟨?_, ?_, ?_⟩
  · unfold k0 at_ t1
    after_reads_simp
  · unfold k1 at_ t1
    after_reads_simp
  · unfold k2 at_ t1
    after_reads_simp

/-- So does the second part. -/
theorem t2_keys : k0 (after t2.1 V) = k0 V ∧ k1 (after t2.1 V) = k1 V ∧ k2 (after t2.1 V) = k2 V := by
  refine ⟨?_, ?_, ?_⟩
  · unfold k0 at_ t2
    after_reads_simp
  · unfold k1 at_ t2
    after_reads_simp
  · unfold k2 at_ t2
    after_reads_simp

/-- The first part: the key added, four rounds, the key again, and a round with the next one's sum. -/
theorem t0_words : p0 (after t0.1 V) =
    openT (turnT 17#32 15#32 (injectT (k1 V) (thirdT (k0 V) (k1 V)) 1#32 (groupAT (startT (k0 V) (k1 V) (c0 V) (c1 V))))) := by
  refine Prod.ext ?_ ?_
  · unfold p0 at_ t0
    after_reads_simp
    simp only [TRef.ofBuf_toBuf, openT, turnT, halfT, injectT, groupAT, groupBT, startT, thirdT]
    rfl
  · unfold p0 at_ t0
    after_reads_simp
    simp only [TRef.ofBuf_toBuf, openT, turnT, halfT, injectT, groupAT, groupBT, startT, thirdT]
    rfl

/-- The second part: the rest of the second group, the key, and three rounds of the third group. -/
theorem t1_words : p1 (after t1.1 V) =
    turnT 26#32 6#32 (turnT 15#32 17#32 (turnT 13#32 19#32 (injectT (k2 V) (k0 V) 2#32
      (turnT 24#32 8#32 (turnT 16#32 16#32 (halfT 29#32 3#32 (p0 V))))))) := by
  refine Prod.ext ?_ ?_
  · unfold p1 at_ t1
    after_reads_simp
    simp only [TRef.ofBuf_toBuf, openT, turnT, halfT, injectT, groupAT, groupBT, startT, thirdT]
    rfl
  · unfold p1 at_ t1
    after_reads_simp
    simp only [TRef.ofBuf_toBuf, openT, turnT, halfT, injectT, groupAT, groupBT, startT, thirdT]
    rfl

/-- The third part: the last round of the third group, the key, the fourth group, the key, and the next round's sum. -/
theorem t2_words : p2 (after t2.1 V) =
    openT (injectT (k1 V) (k2 V) 4#32 (groupBT (injectT (k0 V) (k1 V) 3#32 (turnT 6#32 26#32 (p1 V))))) := by
  refine Prod.ext ?_ ?_
  · unfold p2 at_ t2
    after_reads_simp
    simp only [TRef.ofBuf_toBuf, openT, turnT, halfT, injectT, groupAT, groupBT, startT, thirdT]
    rfl
  · unfold p2 at_ t2
    after_reads_simp
    simp only [TRef.ofBuf_toBuf, openT, turnT, halfT, injectT, groupAT, groupBT, startT, thirdT]
    rfl

/-- The last part: the rest of the fifth group, and the key. -/
theorem t3_words : p3 (after t3.1 V) =
    injectT (k2 V) (k0 V) 5#32 (turnT 6#32 26#32 (turnT 26#32 6#32 (turnT 15#32 17#32 (halfT 13#32 19#32 (p2 V))))) := by
  refine Prod.ext ?_ ?_
  · unfold p3 at_ t3
    after_reads_simp
    simp only [TRef.ofBuf_toBuf, openT, turnT, halfT, injectT, groupAT, groupBT, startT, thirdT]
    rfl
  · unfold p3 at_ t3
    after_reads_simp
    simp only [TRef.ofBuf_toBuf, openT, turnT, halfT, injectT, groupAT, groupBT, startT, thirdT]
    rfl

/-- The generator's call leaves the generator's tables of its keys and counters. -/
theorem tf_words : p3 (after tf V) = genT (k0 V) (k1 V) (c0 V) (c1 V) := by
  obtain ⟨h0, h1, h2⟩ := t0_keys V
  obtain ⟨g0, g1, g2⟩ := t1_keys (after t0.1 V)
  obtain ⟨f0, f1, f2⟩ := t2_keys (after t1.1 (after t0.1 V))
  unfold tf
  rw [after_append, after_append, after_append, t3_words, f0, f2, t2_words, g0, g1, g2, t1_words, h0, h1, h2, t0_words]
  rfl

end Cert.Proof.RefRun
-- ==== Proof.Spec.lean ====
/-
  The stages of the soft sample as functions of whole tables: the counters and the key, the uniform numbers from the
  generator's words, the softmax of the perturbed logits, the index of each row's largest entry, and the result.
-/
module

public import proofs.«01_k».proof.Proof.Table

@[expose] public section

noncomputable section

namespace Cert.Proof.Table

open Cert.ReferenceIdeal Cert.ReferenceIdeal.Facts₀
open Cert.Proof.Words
open Idealize.ShloMosaic

/-- A constant table of wide words. -/
abbrev wide (w : BitVec 64) : IVec S128x100000 64 := broadcastInDim S128x100000 ![] bcast_S_S128x100000 (constantI S_ 64 w)

/-- The counters: row times row length plus column. -/
abbrev count : IVec S128x100000 64 :=
  addi (muli (wide 100000#64) (iotaInDim S128x100000 64 0)) (muli (wide 1#64) (iotaInDim S128x100000 64 1))

/-- The counters' high and low words. -/
abbrev hiT : T := trunci 32 (Host.shrui count (wide 32#64)) natLt_32_64

/-- The low halves of the counters. -/
abbrev loT : T := trunci 32 count natLt_32_64

/-- The seed's high word and low word, as the key. -/
abbrev key : IVec S2 32 :=
  concatenate S2 0 [⟨S1, broadcastInDim S1 ![] bcast_S_S1 (Host.shrui (constantI S_ 32 42#32) (constantI S_ 32 32#32))⟩,
    ⟨S1, broadcastInDim S1 ![] bcast_S_S1 (andi (constantI S_ 32 42#32) (constantI S_ 32 4294967295#32))⟩]
    concatenates_S1_S1_S2_d0

/-- The key's two words. -/
abbrev key0 : S := shapeCast S_ (extractStridedSlice S1 ![0] key slices_S2_S1_0) shapeCasts_S1_S_

/-- The key's second word. -/
abbrev key1 : S := shapeCast S_ (extractStridedSlice S1 ![1] key slices_S2_S1_1) shapeCasts_S1_S_

variable {F : FTy → Type} [FloatOps F]

/-- A table of floats. -/
abbrev A (F : FTy → Type) := FVec F S128x100000 .f32

/-- A constant table of floats. -/
abbrev fl (w : BitVec 32) : A F := broadcastInDim S128x100000 ![] bcast_S_S128x100000 (constant S_ .f32 w)

/-- A constant of one entry, with two dimensions, and its spreading over the table. -/
abbrev cell (w : BitVec 32) : FVec F S1x1 .f32 := broadcastInDim S1x1 ![] bcast_S_S1x1 (constant S_ .f32 w)

/-- A single entry spread over the array. -/
abbrev spread (x : FVec F S1x1 .f32) : A F := broadcastInDim S128x100000 ![0, 1] bcast_S1x1_S128x100000_0_1 x

/-- The generator's words as fractions: their xor's upper bits as a mantissa, less one. -/
def fracT (p : T × T) : A F :=
  subf (bitcastToFloat .f32 (ori (Host.shrui (xori p.1 p.2) (lit 9#32)) (lit 1065353216#32))) (fl 0x3F800000#32)

/-- The uniform numbers between zero and one: the fractions scaled, moved and kept from below. -/
def unifT (p : T × T) : A F :=
  maximumf (spread (cell 0x00000000#32)) (addf (mulf (fracT p) (spread (subf (cell 0x3F800000#32) (cell 0x00000000#32))))
    (spread (cell 0x00000000#32)))

/-- The perturbed logits over the temperature. -/
def scoreT (x u : A F) : A F :=
  Host.divf (addf x (Host.negf (Host.log (addf (Host.negf (Host.log (addf u (fl 0x322BCC77#32)))) (fl 0x322BCC77#32)))))
    (fl 0x40A00000#32)

/-- One number a row, spread over the table. -/
abbrev rows (v : FVec F S128 .f32) : A F :=
  broadcastInDim S128x100000 ![0, 1] bcast_S128x1_S128x100000_0_1 (broadcastInDim S128x1 ![0] bcast_S128_S128x1_0 v)

/-- Each row's largest entry. -/
def topT (z : A F) : FVec F S128 .f32 :=
  maximumf (broadcastInDim S128 ![] bcast_S_S128 (constant S_ .f32 0xFF800000#32))
    (Host.reduce FloatOps.maximumf z (constant S_ .f32 0xFF800000#32) reducesTo_S128x100000_S128_d1 h_S_)

/-- The exponentials of the entries less their row's largest. -/
def expT (z : A F) : A F := Host.exp (subf z (rows (topT z)))

/-- The softmax of each row. -/
def softT (z : A F) : A F :=
  Host.divf (expT z) (rows (Host.reduceAdd (expT z) (constant S_ .f32 0x00000000#32) reducesTo_S128x100000_S128_d1 h_S_))

/-- The index of each row's largest entry. -/
def argT (y : A F) : IVec S128 32 := fun j =>
  (Host.argReduce reducer_argmax_f32_i32 y (iotaInDim S128x100000 32 1) (constant S_ .f32 0xFF800000#32)
    (constantI S_ 32 0#32) reducesTo_S128x100000_S128_d1 h_S_ j).2

/-- The one-hot rows of the indices. -/
def hotT (a : IVec S128 32) : A F :=
  uitofp .f32 (cmpi .eq
    (broadcastInDim S128x100000 ![0, 1] bcast_S128x1_S128x100000_0_1 (broadcastInDim S128x1 ![0] bcast_S128_S128x1_0 a))
    (broadcastInDim S128x100000 ![0, 1] bcast_S1x100000_S128x100000_0_1 (iotaInDim S1x100000 32 1)))

/-- The uniform numbers of the seed. -/
def noiseT : A F := unifT (genT key0 key1 hiT loT)

/-- The soft sample of the logits. -/
def sampleT (x : A F) : A F := softT (scoreT x noiseT)

/-- The straight-through result of a soft sample. -/
def resultT (y : A F) : A F := addf (subf (hotT (argT y)) y) y

end Cert.Proof.Table
-- ==== Proof.RefRun.lean ====
/-
  The run of the reference: its result is the straight-through result of the soft sample of its logits.
-/
module

public import proofs.«01_k».proof.Proof.RefWords
public import proofs.«01_k».proof.Proof.Spec

@[expose] public section

set_option maxRecDepth 16384

noncomputable section

namespace Cert.Proof.RefRun

open Cert.ReferenceIdeal
open Cert.Proof.Table
open Idealize.ShloMosaic Idealize.ShloMosaic.StableHlo Idealize.SL.Sem

variable {F : FTy → Type} [FloatOps F]

/-- The logits, the soft sample and the result a valuation holds, and the two bounds of the uniform numbers. -/
abbrev logits (V : Valuation τ sig (Elt F)) : A F := at_ V main_arg0

/-- The soft sample and the result, in the buffers that hold them. -/
abbrev soft (V : Valuation τ sig (Elt F)) : A F := at_ V main_v29
abbrev result (V : Valuation τ sig (Elt F)) : A F := at_ V main_v33

variable (V : Valuation τ sig (Elt F))

/-- Before the generator's call the key and the counters are in place, and the logits untouched. -/
theorem l0_k0 : k0 (after l0 V) = key0 := by
  unfold k0 at_ l0 all
  after_reads_simp
  rfl

/-- The prologue leaves the second key word. -/
theorem l0_k1 : k1 (after l0 V) = key1 := by
  unfold k1 at_ l0 all
  after_reads_simp
  rfl

/-- It leaves the high halves of the counters. -/
theorem l0_c0 : c0 (after l0 V) = hiT := by
  unfold c0 at_ l0 all
  after_reads_simp
  rfl

/-- It leaves the low halves. -/
theorem l0_c1 : c1 (after l0 V) = loT := by
  unfold c1 at_ l0 all
  after_reads_simp
  rfl

/-- The bounds of the uniform numbers. -/
abbrev bot (V : Valuation τ sig (Elt F)) : FVec F S1x1 .f32 := at_ V main_call0_v2

/-- The upper bound of the uniform numbers. -/
abbrev top (V : Valuation τ sig (Elt F)) : FVec F S1x1 .f32 := at_ V main_call0_v3

/-- The prologue leaves the bounds 0 and 1, and the logits as they were. -/
theorem l0_bounds : bot (after l0 V) = cell 0x00000000#32 ∧ top (after l0 V) = cell 0x3F800000#32
    ∧ logits (after l0 V) = logits V := by
  refine ⟨?_, ?_, ?_⟩
  · unfold bot at_ l0 all
    after_reads_simp
    rfl
  · unfold top at_ l0 all
    after_reads_simp
    rfl
  · unfold logits at_ l0 all
    after_reads_simp

/-- The generator's call leaves the bounds and the logits alone. -/
theorem tf_bounds : bot (after tf V) = bot V ∧ top (after tf V) = top V ∧ logits (after tf V) = logits V := by
  refine ⟨?_, ?_, ?_⟩
  · unfold bot at_ tf t0 t1 t2 t3
    after_reads_simp
  · unfold top at_ tf t0 t1 t2 t3
    after_reads_simp
  · unfold logits at_ tf t0 t1 t2 t3
    after_reads_simp

/-- From the generator's words to the soft sample. -/
theorem l1_soft (hb : bot V = cell 0x00000000#32) (ht : top V = cell 0x3F800000#32) :
    soft (after l1 V) = softT (scoreT (logits V) (unifT (p3 V))) ∧ logits (after l1 V) = logits V := by
  refine ⟨?_, ?_⟩
  · unfold unifT
    rw [← hb, ← ht]
    unfold soft at_ l1 all
    after_reads_simp
    simp only [TRef.ofBuf_toBuf, softT, expT, topT, scoreT, fracT]
    rfl
  · unfold logits at_ l1 all
    after_reads_simp

/-- The index of each row's largest entry a valuation holds. -/
abbrev index (V : Valuation τ sig (Elt F)) : IVec S128 32 := at_ V main_v30

/-- The one-hot rows a valuation holds. -/
abbrev onehot (V : Valuation τ sig (Elt F)) : A F := at_ V main_v31

/-- The operations of the index of the largest entry, with any reductions for the entry and the index. -/
def argOps (g₁ : A F → T → FVec F S_ .f32 → S → FVec F S128 .f32) (g₂ : A F → T → FVec F S_ .f32 → S → IVec S128 32) :
    Ops F :=
  [TRef.nullary main_call1.v0 (iotaInDim S128x100000 32 1), TRef.nullary main_call1.cst (constant S_ .f32 0xFF800000#32),
   TRef.nullary main_call1.c (constantI S_ 32 0#32),
   TRef.quaternary (.of main_v29) main_call1.v0 main_call1.cst main_call1.c main_call1.v1_0 g₁,
   TRef.quaternary (.of main_v29) main_call1.v0 main_call1.cst main_call1.c main_call1.v1_1 g₂]

/-- The pair reduction leaves its second part as the index, whatever the two parts compute. -/
theorem argOps_index (g₁ : A F → T → FVec F S_ .f32 → S → FVec F S128 .f32)
    (g₂ : A F → T → FVec F S_ .f32 → S → IVec S128 32) :
    index (after (argOps g₁ g₂) V)
        = g₂ (soft V) (iotaInDim S128x100000 32 1) (constant S_ .f32 0xFF800000#32) (constantI S_ 32 0#32)
      ∧ soft (after (argOps g₁ g₂) V) = soft V ∧ logits (after (argOps g₁ g₂) V) = logits V := by
  refine ⟨?_, ?_, ?_⟩
  · unfold index at_ argOps
    after_reads_simp
    simp only [TRef.ofBuf_toBuf]
    rfl
  · unfold soft at_ argOps
    after_reads_simp
  · unfold logits at_ argOps
    after_reads_simp

/-- After it the index is each row's first largest entry, and the soft sample and logits are as they were. -/
theorem arg_index : index (after arg.1 V) = argT (soft V)
    ∧ soft (after arg.1 V) = soft V ∧ logits (after arg.1 V) = logits V :=
  argOps_index V _ _

/-- The one-hot rows of the indices. -/
theorem hot_result : onehot (after hot.1 V) = hotT (index V)
    ∧ soft (after hot.1 V) = soft V ∧ logits (after hot.1 V) = logits V := by
  refine ⟨?_, ?_, ?_⟩
  · unfold onehot at_ hot
    after_reads_simp
    simp only [TRef.ofBuf_toBuf, hotT]
    rfl
  · unfold soft at_ hot
    after_reads_simp
  · unfold logits at_ hot
    after_reads_simp

/-- The soft sample subtracted from the one-hot rows and added again. -/
theorem l2_result : result (after l2 V) = addf (subf (onehot V) (soft V)) (soft V) ∧ logits (after l2 V) = logits V := by
  refine ⟨?_, ?_⟩
  · unfold result at_ l2 all
    after_reads_simp
  · unfold logits at_ l2 all
    after_reads_simp

/-- The whole line leaves the result of the logits' soft sample, and the logits untouched. -/
theorem all_result : result (after all.1 V) = resultT (sampleT (logits V)) ∧ logits (after all.1 V) = logits V := by
  obtain ⟨a1, a2, a3⟩ := l0_bounds V
  obtain ⟨b1, b2, b3⟩ := tf_bounds (after l0 V)
  obtain ⟨c1, c2⟩ := l1_soft (after tf (after l0 V)) (b1.trans a1) (b2.trans a2)
  obtain ⟨d1, d2, d3⟩ := arg_index (after l1 (after tf (after l0 V)))
  obtain ⟨e1, e2, e3⟩ := hot_result (after arg.1 (after l1 (after tf (after l0 V))))
  obtain ⟨f1, f2⟩ := l2_result (after hot.1 (after arg.1 (after l1 (after tf (after l0 V)))))
  unfold resultT sampleT noiseT
  rw [all_eq, after_append, after_append, after_append, after_append, after_append, f1, f2, e1, e2, e3, d1, d2, d3, c1, c2,
    b3, a3, tf_words, l0_k0, l0_k1, l0_c0, l0_c1]
  exact ⟨rfl, rfl⟩

end Cert.Proof.RefRun
-- ==== Proof.RefEnd.lean ====
/-
  The reference from any memory: it ends, with its result the straight-through result of its logits' soft sample, its
  logits as they were and every counter at zero.
-/
module

public import proofs.«01_k».proof.Proof.RefRun
public import Idealize.ShloMosaic.Lib.Quiescent

@[expose] public section

set_option maxRecDepth 16384

noncomputable section

namespace Cert.Proof.RefRun

open Cert.ReferenceIdeal
open Cert.Proof.Table
open Idealize.ShloMosaic Idealize.ShloMosaic.StableHlo Idealize.SL.Sem
open Idealize.ShloMosaic.TcCoe

variable {F : FTy → Type} [FloatOps F]

/-- What a straight line needs of each of its operations: its buffers are the core's, and it takes no fresh one. -/
def Plain (l : Ops F) : Prop := (l.Forall fun op => op.bufs ⊆ tcRefs τ sig) ∧ ∀ op ∈ l, op.fresh = ∅

/-- Two plain lines in a row are plain. -/
theorem Plain.append {l₁ l₂ : Ops F} (h₁ : Plain l₁) (h₂ : Plain l₂) : Plain (l₁ ++ l₂) :=
  ⟨List.forall_append.mpr ⟨h₁.1, h₂.1⟩, fun op h => (List.mem_append.mp h).elim (h₁.2 op) (h₂.2 op)⟩

/-- The empty line is plain. -/
theorem Plain.nil : Plain ([] : Ops F) := ⟨trivial, fun _ h => nomatch h⟩

/-- A plain operation before a plain line. -/
theorem Plain.cons {op : HloOp τ sig (Elt F)} {l : Ops F} (hb : op.bufs ⊆ tcRefs τ sig) (hf : op.fresh = ∅) (h : Plain l) :
    Plain (op :: l) :=
  ⟨List.forall_iff_forall_mem.mpr fun o ho => by
      rcases List.mem_cons.mp ho with rfl | ho
      · exact hb
      · exact List.forall_iff_forall_mem.mp h.1 o ho,
    fun o ho => by
      rcases List.mem_cons.mp ho with rfl | ho
      · exact hf
      · exact h.2 o ho⟩

/-- Every operation of the reference is plain. -/
theorem all_plain : Plain (all (F := F)).1 := by
  rw [all_eq]
  refine Plain.append ?_ (Plain.append (Plain.append ?_ (Plain.append ?_ (Plain.append ?_ ?_)))
    (Plain.append ?_ (Plain.append ?_ (Plain.append ?_ ?_))))
  all_goals repeat (first | exact Plain.nil | refine Plain.cons (by simp) rfl ?_)

/-- The reference from any memory. -/
theorem run_reference (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      (r.2.mem ((c.tc : Thread nD τ).loc main_v33) : A F) = resultT (sampleT (m ((c.tc : Thread nD τ).loc main_arg0) : A F))
      ∧ r.2.mem ((c.tc : Thread nD τ).loc main_arg0) = m ((c.tc : Thread nD τ).loc main_arg0))
      ∧ r.2.sem = fun _ => 0) := by
  refine θ_run_mono (run_hlo defs main (ops := all.1) all.2 (by decide) (by decide) all_plain.1 all_plain.2 m ρ) ?_
  intro r h
  refine ⟨fun c => ⟨?_, ?_⟩, sem_eq_zero_of_no_sems rfl _⟩
  · exact (h c main_v33).trans (all_result _).1
  · exact (h c main_arg0).trans (all_result _).2

end Cert.Proof.RefRun
-- ==== Proof.Overlap.lean ====
/-
  Copies whose destinations may OVERLAP, started one after another on one DMA semaphore and drained afterwards, all of
  them writing values of one array `g` fixed beforehand. The destination's buffer is in write mode with targets `g`;
  every copy takes a share of the WHOLE buffer and gives it back with the elements it wrote marked. This module has the
  three steps: starting the batch's next copy (`wp_issueOverlap`), peeling a copy's share off (`willBeTo_peel`), and
  joining what the drained copies give back (`willBeTo_gather`).
-/
module

public import Idealize.ShloMosaic.Lib.Batch
public import Idealize.ShloMosaic.Lib.WriteMode
public import Idealize.ShloMosaic.Lib.Exec
public import Idealize.ShloMosaic.Lib.Tactic

@[expose] public section

noncomputable section

namespace Cert.Proof.Overlap

open Idealize.ShloMosaic Idealize.ShloMosaic.Transfers
open Idealize.SL Idealize.SL.RA
open Idealize.SL.BI (sProp Storable bigSep bigSep_insert bigSep_empty bigSep_singleton)
open scoped Idealize.SL.BI
open Idealize.SL.BI.BIBase Idealize.SL.BI.Laws Idealize.SL.Sem Idealize.SL.ProofMode

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

section Shares

open PCS URA

variable (emb : UEmb (WmRA nD τ sig Val) U)
variable {ℓ : Loc nD τ sig} {I : Finset (Idx ℓ)} {f : Buf Val ℓ} {g : Tgt Val ℓ}

/-- Two holders' shares joined: what either knows written, the joined holder does. -/
theorem willBeTo_join {q q₁ q₂ : PosShare TreeShare} (h : q ∈ q₁ ·? q₂) (W₁ W₂ : Finset (Idx ℓ)) :
    (willBeTo emb ℓ I q f g (W₁ ∪ W₂) : sProp 𝕄) ⊣⊢ iprop(willBeTo emb ℓ I q₁ f g W₁ ∗ willBeTo emb ℓ I q₂ f g W₂) := by
  unfold willBeTo BI.Region.willBe
  refine BI.Region.held_share h fun i _ => ?_
  have := Region.WB.mem_mk_op_mk (f i) (g i) (decide (i ∈ W₁)) (decide (i ∈ W₂))
  simpa only [← Bool.decide_or, ← Finset.mem_union] using this

/-- The next copy's share, peeled off what remains after `k` of them; nothing is marked yet. -/
theorem willBeTo_peel (q : PosShare TreeShare) (k : ℕ) :
    (willBeTo emb ℓ I (shareDrop q k) f g ∅ : sProp 𝕄)
      ⊢ iprop(willBeTo emb ℓ I (shareDrop q (k + 1)) f g ∅ ∗ willBeTo emb ℓ I (shareTokN q k) f g ∅) := by
  have h := (willBeTo_join (Ix := Ix) (Name := Name) (Lvl := Lvl) emb (ℓ := ℓ) (I := I) (f := f) (g := g)
    (PosShare.mem_left_op_right (shareDrop q k)) ∅ ∅).1
  rw [Finset.union_empty] at h
  exact h

/-- The remainder and the `k` shares given back, joined: written is whatever one of them wrote. -/
theorem willBeTo_gather (q : PosShare TreeShare) (T : ℕ → Finset (Idx ℓ)) (k : ℕ) :
    iprop(willBeTo emb ℓ I (shareDrop q k) f g ∅ ∗ bigSep (Finset.range k) fun i => willBeTo emb ℓ I (shareTokN q i) f g (T i))
      ⊢ (willBeTo emb ℓ I q f g ((Finset.range k).biUnion T) : sProp 𝕄) := by
  suffices h : ∀ (k : ℕ) (W : Finset (Idx ℓ)), iprop(willBeTo emb ℓ I (shareDrop q k) f g W ∗ bigSep (Finset.range k) fun i => willBeTo emb ℓ I (shareTokN q i) f g (T i))
      ⊢ (willBeTo emb ℓ I q f g (W ∪ (Finset.range k).biUnion T) : sProp 𝕄) by
    have := h k ∅; rwa [Finset.empty_union] at this
  intro k
  induction k with
  | zero => intro W; rw [Finset.range_zero, bigSep_empty, Finset.biUnion_empty, Finset.union_empty]; exact sep_emp.1
  | succ k ih =>
    intro W
    rw [Finset.range_add_one, show bigSep (insert k (Finset.range k)) (fun i => (willBeTo emb ℓ I (shareTokN q i) f g (T i) : sProp 𝕄))
      = iprop(willBeTo emb ℓ I (shareTokN q k) f g (T k) ∗ bigSep (Finset.range k) fun i => willBeTo emb ℓ I (shareTokN q i) f g (T i))
      from bigSep_insert Finset.notMem_range_self, Finset.biUnion_insert, ← Finset.union_assoc]
    refine Entails.trans ?_ (ih (W ∪ T k))
    have hj := (willBeTo_join (Ix := Ix) (Name := Name) (Lvl := Lvl) emb (ℓ := ℓ) (I := I) (f := f) (g := g)
      (PosShare.mem_left_op_right (shareDrop q k)) W (T k)).2
    iintro ⟨Hd, Ht, Hts⟩
    isplitr [Hts]
    · iapply hj
      isplitl [Hd]; · iexact Hd
      iexact Ht
    iexact Hts

end Shares

section Issue

variable [Preorder Lvl] (EC : UEmb Counters (MT nD τ sig Ix Val Name U Lvl)) (emb : UEmb (WmRA nD τ sig Val) U)
variable {Λ : Labels} {defs : Defs nD τ sig Val Λ} (𝒱 : Variants) (c : Thread nD τ) (bd : Option 𝒱.V)
variable {α : Type} {Q : α → sProp (MT nD τ sig Ix Val Name U Lvl)} {sp sp' : Space} {s : Shape} {e : EltTy} {n : ℕ}

/-- Starting the batch's next copy (`j` started, none waited for) with the destination's buffer in write mode: the
    source's elements at some share, a share of the whole destination buffer, and the batch; what the copy reads is what
    the targets ask for (`hadm`). What the copy gives back — the same share with its elements marked, and the source's
    share — makes the batch's delivery `D ⟨j, _⟩`. -/
theorem wp_issueOverlap [Infinite Name] [EC.LandsIn (upEmb : UEmb _ (MT nD τ sig Ix Val Name U Lvl))]
    {src : Memref sig c.2.kind sp s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {fs : Buf Val (src.view.loc c)}
    {Sd : Finset (Idx (dst.view.loc c))} {qd : PosShare TreeShare} {fd : Buf Val (dst.view.loc c)} {g : Tgt Val (dst.view.loc c)}
    {ιwm : Name} {D : Fin n → sProp (MT nD τ sig Ix Val Name U Lvl)} {j u : ℕ}
    (ι : Ix) (N : ℕ) (hN : dst.view.amount sm = N) (hSd : dst.view.set ⊆ Sd) (hj : j < n) (hu : u ≤ j * N)
    (hadm : dst.view.Admitted Val g (src.view.read Val fs) Finset.univ)
    (hD : iprop((willBeTo emb (dst.view.loc c) Sd qd fd g dst.view.set) ∗ (src.view.loc c ↦[src.view.set]{q} fs)) ⊢ D ⟨j, hj⟩) :
    iprop((src.view.loc c ↦[src.view.set]{q} fs) ∗ (wmInv emb ιwm ∗ willBeTo emb (dst.view.loc c) Sd qd fd g ∅) ∗ Batch EC c sm ι N D j u)
      ⊢ iprop((Batch EC c sm ι N D (j + 1) u -∗ wp frame (wpE defs 𝒱 c bd) Set.univ (k ⟨⟩) Q)
          -∗ wp frame (wpE defs 𝒱 c bd) Set.univ (.op (.enqueueDma src (.here dst) sm hsrc hdst hsem) k) Q) := by
  have hw := willBeTo_writeUpdate (Ix := Ix) (Lvl := Lvl) (emb := emb) (ιwm := ιwm) c (v := dst.view)
    (w := src.view.read Val fs) (S := Sd) (q := qd) (f := fd) (g := g) (W := ∅) hSd hadm
  rw [Finset.empty_union] at hw
  unfold Batch
  iintro ⟨Hs, Hd, ⟨%γ, %γ₀, %κ, #Hinv, Hp, H0, Hcred⟩⟩ Hk
  ihave Hp' := (show bigSep (pending j) (fun t => count EC (γ t) 0) ⊢ iprop(count EC (γ ⟨j, hj⟩) 0 ∗ bigSep (pending (j + 1)) (fun t => count EC (γ t) 0))
    from Entails.of_eq (by rw [pending_succ hj, bigSep_insert (not_mem_pending_succ hj)]; rfl)) $$ Hp
  icases Hp' with ⟨Ht, Hp⟩
  iapply (wp_enqueueDma 𝒱 c bd Set.univ ι N hN) $$ [Hs Hd] [Ht]
  · isplitl [Hs]; · iexact Hs
    iapply hw $$ Hd
  · iapply (batch_creditUpdate EC ⟨j, hj⟩ hD)
    isplitr; · iexact Hinv
    iexact Ht
  iintro Hc
  iapply Hk
  iexists γ, γ₀, κ
  isplitr; · iexact Hinv
  isplitl [Hp]; · iexact Hp
  isplitl [H0]; · iexact H0
  rw [show (j + 1) * N - u = (j * N - u) + N by rw [Nat.succ_mul]; omega, ← tallyAt_add]
  icombine Hcred Hc as H
  iexact H

end Issue

end Cert.Proof.Overlap

end
-- ==== Proof.Scatter.lean ====
/-
  The second call (`cc1__scatter_kernel`): for each of the 128 rows a copy of an 8 x 128 tile of ones and zeros is
  started into the result array, on one counter; then the counter is waited on 128 times. Rows of one group of eight
  may ask for the same tile while both copies are in flight, so the result array is held in write mode, whose target
  is the one-hot array every copy agrees with.
-/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.RegionArraysD
public import Idealize.ShloMosaic.Lib.VecWindow
public import Idealize.ShloMosaic.Lib.Tactic
public import proofs.«01_k».proof.Proof.Overlap

@[expose] public section

set_option maxRecDepth 16384

noncomputable section

namespace Cert.Proof.Scatter

open Cert.KernelIdeal Cert.KernelIdeal.Gen
open Cert.Proof.Overlap
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

/-- The proof's algebra: the write mode's, beside the pipeline library's rounds and the transfers' counters. -/
abbrev UU (F : FTy → Type) : Type := WmRA nD τ sig (Elt F) × Pipeline.UD sig nD τ

local notation "𝕄" => MT nD τ sig Unit (Elt F) ℕ (UU F) ℕ

/-- The write mode's place in the proof's algebra. -/
abbrev embW : UEmb (WmRA nD τ sig (Elt F)) (UU F) := UEmb.inl
/-- The counters' place in the proof's algebra. -/
abbrev embC : UEmb Counters 𝕄 := countersEmb (U := UU F)

abbrev 𝒱₀ : Variants := Variants.none

/-- Memref `M`'s buffer on core `c`: its contents type, and it held whole at `f`. -/
abbrev Bf (F : FTy → Type) (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf F c M) : sProp 𝕄 :=
  M.view.loc (c : Thread nD τ) ↦{fullShare} f

/-- The call's operands: the row words in scalar memory, the same words in vector memory, the result, the patches. -/
abbrev M0 : Memref sig .tc .smem S128x1 .i32 := stage1_0 0
abbrev M1 : Memref sig .tc .vmem S16x8 .i32 := stage1_1 0
abbrev MO : Memref sig .tc .hbm S128x100000 .f32 := Memref.whole main_v0
abbrev MP : Memref sig .tc .vmem S16x8x8x128 .f32 := Memref.whole cc1_scratch0

/-- A trip of the loop that starts the copies. -/
abbrev body1 (F : FTy → Type) [FloatOps F] (t : Fin k1_t1_loop.trips) : Prog (TpuEff nD τ sig (Elt F) Λ₀ .tc) Unit :=
  k1_t1_body (F := F) M0 (hstage1_0 0) M1 (hstage1_1 0) MO (Memref.isWhole_whole _) MO (Memref.isWhole_whole _) MP (Memref.isWhole_whole _) cc1_scratch1 t ()

/-- A trip of the loop that waits for them. -/
abbrev body2 (F : FTy → Type) [FloatOps F] (t : Fin k1_t2_loop.trips) : Prog (TpuEff nD τ sig (Elt F) Λ₀ .tc) Unit :=
  k1_t2_body (F := F) M0 (hstage1_0 0) M1 (hstage1_1 0) MO (Memref.isWhole_whole _) MO (Memref.isWhole_whole _) MP (Memref.isWhole_whole _) cc1_scratch1 t ()

/-- The word of row `t`, off the scalar operand's buffer. -/
def word (c : Dev nD) (fI : Bf F c M0) (t : Fin 128) : BitVec 32 := fI (show S128x1.Idx from fun a => match a with | 0 => t | 1 => (0 : Fin 1))

/-- The issue loop's trip `t` reads row `t`'s word. -/
theorem off1_eq : ∀ t : Fin k1_t1_loop.trips, k1_off1 t = ![t.val, 0] := by decide +kernel

/-- The patch of trip `t` is that of group `t / 8`, row `t % 8`. -/
theorem off3_eq : ∀ t : Fin k1_t1_loop.trips, k1_off3 t = ![t.val / 8, t.val % 8, 0, 0] := by decide +kernel

/-- Trip `t` of the second loop reads word `t`. -/
theorem off4_eq : ∀ t : Fin k1_t2_loop.trips, k1_off4 t = ![t.val, 0] := by decide +kernel

/-- A read of one word of the column is that word. -/
theorem read_word (c : Dev nD) (fI : Bf F c M0) (t : Fin 128) (off : Fin 2 → ℕ) (h : ∀ a, off a + S1x1.size a ≤ S128x1.size a) (ho : off = ![t.val, 0])
    (x : S1x1.Idx) :
    View.readAt (Elt F) M0.view (Rect.unit (s := S128x1) off S1x1.size h).toLoadRect fI x = word c fI t := by
  subst ho
  unfold word
  show fI _ = fI _
  congr 1
  funext a
  apply Fin.ext
  fin_cases a
  · have h0 : (x 0).val = 0 := by have := (x 0).isLt; change (x 0).val < 1 at this; omega
    show t.val + 1 * (x 0).val = t.val
    omega
  · have h0 : (x 1).val = 0 := by have := (x 1).isLt; change (x 1).val < 1 at this; omega
    show 0 + 1 * (x 1).val = 0
    omega

/-- The part of the patches that row `t`'s copy reads, and the tile of the result it writes when the row's word is `w`. -/
abbrev srcM (t : Fin k1_t1_loop.trips) : Memref sig .tc .vmem S8x128 .f32 :=
  (MP.slice (Rect.unit (s := S16x8x8x128) (k1_off3 t) S1x1x8x128.size (k1_off3_inb t)) (fun _ => rfl)).squeeze S8x128 squeezes_S1x1x8x128_S8x128

/-- The tile of the result that the copy of trip `t` writes. -/
abbrev dstM (t : Fin k1_t1_loop.trips) (w : BitVec 32) (h : k1_chk1 t w) : Memref sig .tc .hbm S8x128 .f32 :=
  MO.slice (Rect.unit (s := S128x100000) (k1_off2 t w) S8x128.size (k1_off2_inb t w h)) (fun _ => rfl)

/-- The counter the copies run on. -/
abbrev sem : SemLoc sig := .dma cc1_scratch1.sem

/-- What one copy adds to the counter. -/
abbrev amt : ℕ := 128

/-- Two families held over one set are the pairs held over it. -/
theorem bigSep_two (s : Finset ℕ) (A B : ℕ → sProp 𝕄) : iprop(bigSep s A ∗ bigSep s B) = bigSep s fun i => iprop(A i ∗ B i) :=
  (bigSep_sep s A B).symm

/-- The first loop has 128 trips. -/
theorem trips1 : Scf.trips k1_t1_loop.lb k1_t1_loop.ub k1_t1_loop.st = 128 := rfl

/-- The second loop has 128 trips. -/
theorem trips2 : Scf.trips k1_t2_loop.lb k1_t2_loop.ub k1_t2_loop.st = 128 := rfl

section Issue

variable (c : Dev nD) (fI : Bf F c M0) (z : Bf F c MO) (hot : Bf F c MO) (fP : Bf F c MP) (ιwm : ℕ)
  (hchk : ∀ t : Fin k1_t1_loop.trips, k1_chk1 t (word c fI ⟨t.val, t.isLt⟩))

/-- What every element of the result will be. -/
abbrev tgt : Tgt (Elt F) (MO.view.loc (c : Thread nD τ)) := fun i => some (hot i)

/-- What the copy of row `t` gives back: its share of the result, its tile marked written, and its share of the patch. -/
def Dlv (t : Fin 128) : sProp 𝕄 :=
  iprop((willBeTo embW (MO.view.loc (c : Thread nD τ)) Finset.univ (shareTokN fullShare t.val) z (tgt c hot) (dstM t _ (hchk t)).view.set)
    ∗ (MP.view.loc (c : Thread nD τ) ↦[(srcM t).view.set]{shareTokN fullShare t.val} fP))

instance (t : Fin 128) : Storable (upEmb : UEmb _ 𝕄) (Dlv c fI z hot fP hchk t) := by unfold Dlv; infer_instance

/-- Before trip `k` of the issue loop: `k` copies started, each with its share of the result and of the patches. -/
def inv1 (k : ℕ) : sProp 𝕄 :=
  iprop(pt c M0 fI ∗ wmInv embW ιwm ∗ (willBeTo embW (MO.view.loc (c : Thread nD τ)) Finset.univ (shareDrop fullShare k) z (tgt c hot) ∅)
    ∗ (MP.view.loc (c : Thread nD τ) ↦[Finset.univ]{shareDrop fullShare k} fP)
    ∗ (bigSep (Finset.range k) fun i => MP.view.loc (c : Thread nD τ) ↦[Finset.univ \ (srcM (Fin.ofNat 128 i)).view.set]{shareTokN fullShare i} fP)
    ∗ Batch embC (c : Thread nD τ) sem () amt (Dlv c fI z hot fP hchk) k 0)

/-- The elements of the result that some copy writes. -/
def tiles : Finset (Idx (MO.view.loc (c : Thread nD τ))) :=
  (Finset.range 128).biUnion fun i => (dstM (Fin.ofNat 128 i) _ (hchk (Fin.ofNat 128 i))).view.set

/-- Every copy moves the same amount. -/
theorem amt_eq (t : Fin k1_t1_loop.trips) (w : BitVec 32) (h : k1_chk1 t w) : (dstM t w h).view.amount sem = amt := rfl

/-- A trip of the first loop starts its copy. -/
theorem trip1 (hadm : ∀ t, (dstM t _ (hchk t)).view.Admitted (Elt F) (tgt c hot) ((srcM t).view.read (Elt F) fP) Finset.univ)
    (t : Fin k1_t1_loop.trips) :
    inv1 c fI z hot fP ιwm hchk t.val ⊢ wp frame (wpE (defs₀ (F := F)) 𝒱₀ c none) Set.univ (body1 F t) fun _ => inv1 c fI z hot fP ιwm hchk (t.val + 1) := by
  unfold body1 k1_t1_body
  rw [k1_part1_eq_skeleton]
  unfold k1_part1_skel inv1
  iintro ⟨H0, #Hwm, HO, HP, HR, HB⟩
  sl_exec
  have hr : trip1.sl.r c fI t = word c fI ⟨t.val, t.isLt⟩ := by
    unfold trip1.sl.r
    exact read_word c fI ⟨t.val, t.isLt⟩ _ _ (off1_eq t) _
  generalize trip1.sl.r c fI t = w at hr
  subst hr
  iapply (wp_assume _ _ _ _ (hchk t))
  ihave HO' := (willBeTo_peel embW fullShare t.val) $$ HO
  icases HO' with ⟨HO, HOt⟩
  ihave HP' := (pointsTo_share (PosShare.mem_left_op_right (shareDrop fullShare t.val))).1 $$ HP
  icases HP' with ⟨HP, HPt⟩
  ihave HPs := (pointsTo_split_subset (Finset.subset_univ (srcM t).view.set)).1 $$ HPt
  icases HPs with ⟨HPs, HPr⟩
  iapply (Cert.Proof.Overlap.wp_issueOverlap embC embW 𝒱₀ (c : Thread nD τ) none (src := srcM t) (dst := dstM t _ (hchk t)) (sm := sem) (D := Dlv c fI z hot fP hchk) (j := t.val) (u := 0)
    () amt (amt_eq t _ _) (Finset.subset_univ _) t.isLt (Nat.zero_le _) (hadm t) (.rfl)) $$ [HPs HOt HB]
  · isplitl [HPs]; · iexact HPs
    isplitl [HOt]
    · isplitr; · iexact Hwm
      iexact HOt
    iexact HB
  iintro HB
  rw [show ((Prog.ret PUnit.unit).bind fun _ => Pure.pure PUnit.unit : Prog (TpuEff nD τ sig (Elt F) Λ₀ .tc) Unit) = .ret PUnit.unit from rfl]
  sl_step
  isplitl [H0]; · iexact H0
  isplitr; · iexact Hwm
  isplitl [HO]; · iexact HO
  isplitl [HP]; · iexact HP
  isplitl [HR HPr]
  · rw [Finset.range_add_one, show bigSep (insert t.val (Finset.range t.val)) (fun i => (MP.view.loc (c : Thread nD τ) ↦[Finset.univ \ (srcM (Fin.ofNat 128 i)).view.set]{shareTokN fullShare i} fP : sProp 𝕄))
      = iprop((MP.view.loc (c : Thread nD τ) ↦[Finset.univ \ (srcM (Fin.ofNat 128 t.val)).view.set]{shareTokN fullShare t.val} fP)
        ∗ bigSep (Finset.range t.val) (fun i => MP.view.loc (c : Thread nD τ) ↦[Finset.univ \ (srcM (Fin.ofNat 128 i)).view.set]{shareTokN fullShare i} fP))
      from bigSep_insert Finset.notMem_range_self]
    isplitl [HPr]
    · rw [show Fin.ofNat 128 t.val = t from Fin.ext (Nat.mod_eq_of_lt t.isLt)]; iexact HPr
    · iexact HR
  iexact HB

/-- Before trip `k` of the wait loop: every copy started, `k` of them waited for. -/
def inv2 (k : ℕ) : sProp 𝕄 :=
  iprop(pt c M0 fI ∗ Batch embC (c : Thread nD τ) sem () amt (Dlv c fI z hot fP hchk) 128 (k * amt) ∗ ∃ W, owes (c : Thread nD τ) (0 : CellTallies nD τ sig Unit) W)

/-- A trip of the second loop takes one delivery. -/
theorem trip2 (hchk2 : ∀ t : Fin k1_t2_loop.trips, k1_chk2 t (word c fI ⟨t.val, t.isLt⟩)) (t : Fin k1_t2_loop.trips) :
    inv2 c fI z hot fP hchk t.val ⊢ wp frame (wpE (defs₀ (F := F)) 𝒱₀ c none) Set.univ (body2 F t) fun _ => inv2 c fI z hot fP hchk (t.val + 1) := by
  unfold body2 k1_t2_body
  rw [k1_part2_eq_skeleton]
  unfold k1_part2_skel inv2
  iintro ⟨H0, HB, ⟨%W, HW⟩⟩
  sl_exec
  have hr : trip2.sl.r c fI t = word c fI ⟨t.val, t.isLt⟩ := by
    unfold trip2.sl.r
    exact read_word c fI ⟨t.val, t.isLt⟩ _ _ (off4_eq t) _
  generalize trip2.sl.r c fI t = w at hr
  subst hr
  iapply (wp_assume _ _ _ _ (hchk2 t))
  iapply (wp_waitBatchMul embC 𝒱₀ (c : Thread nD τ) none () (N := amt) 1 rfl (D := Dlv c fI z hot fP hchk) (j := 128) (u := t.val * amt)
    (by have : t.val < 128 := t.isLt; show t.val * 128 + 1 * 128 ≤ 128 * 128; omega) (W := W)) $$ [HB HW]
  · isplitl [HB] <;> iassumption
  iintro ⟨HB, HW⟩
  rw [show ((Prog.ret PUnit.unit).bind fun _ => Pure.pure PUnit.unit : Prog (TpuEff nD τ sig (Elt F) Λ₀ .tc) Unit) = .ret PUnit.unit from rfl]
  sl_step
  isplitl [H0]; · iexact H0
  isplitl [HB]; · rw [Nat.add_mul]; iexact HB
  iexists _; iexact HW

/-- All deliveries together: the shares of the result, marked written, and of the patches. -/
theorem deliveries_eq :
    (bigSep Finset.univ (Dlv c fI z hot fP hchk) : sProp 𝕄)
      = iprop((bigSep (Finset.range 128) fun i => willBeTo embW (MO.view.loc (c : Thread nD τ)) Finset.univ (shareTokN fullShare i) z (tgt c hot)
            (dstM (Fin.ofNat 128 i) _ (hchk (Fin.ofNat 128 i))).view.set)
          ∗ bigSep (Finset.range 128) fun i => MP.view.loc (c : Thread nD τ) ↦[(srcM (Fin.ofNat 128 i)).view.set]{shareTokN fullShare i} fP) := by
  rw [bigSep_two]
  rw [← Nat.Iio_eq_range, ← Fin.map_valEmbedding_univ, bigSep_map]
  refine bigSep_congr fun t _ => ?_
  unfold Dlv
  have ht : Fin.ofNat 128 t.val = t := Fin.ext (Nat.mod_eq_of_lt t.isLt)
  show _ = iprop(willBeTo embW (MO.view.loc (c : Thread nD τ)) Finset.univ (shareTokN fullShare t.val) z (tgt c hot)
            (dstM (Fin.ofNat 128 t.val) _ (hchk (Fin.ofNat 128 t.val))).view.set ∗ MP.view.loc (c : Thread nD τ) ↦[(srcM (Fin.ofNat 128 t.val)).view.set]{shareTokN fullShare t.val} fP)
  rw [ht]

/-- The patches' shares, what the copies read and what they did not, joined to the whole. -/
theorem patch_gather :
    iprop((MP.view.loc (c : Thread nD τ) ↦[Finset.univ]{shareDrop fullShare 128} fP)
        ∗ (bigSep (Finset.range 128) fun i => MP.view.loc (c : Thread nD τ) ↦[(srcM (Fin.ofNat 128 i)).view.set]{shareTokN fullShare i} fP)
        ∗ bigSep (Finset.range 128) fun i => MP.view.loc (c : Thread nD τ) ↦[Finset.univ \ (srcM (Fin.ofNat 128 i)).view.set]{shareTokN fullShare i} fP)
      ⊢ (pt c MP fP : sProp 𝕄) := by
  rw [bigSep_two]
  refine (sep_mono .rfl (bigSep_mono fun i _ => (pointsTo_split_subset (Finset.subset_univ _)).2)).trans ?_
  exact (pointsTo_toks_range fullShare 128).2

end Issue

/-- The patches the call stores, from the words in vector memory. -/
def patch (c : Dev nD) (f1 : Bf F c M1) : Bf F c MP := k1_pay1 (F := F) f1

set_option maxHeartbeats 4000000 in
/-- The second call runs: from a zeroed result it leaves the intended rows. -/
theorem scatter_run (c : Dev nD) (fI : Bf F c M0) (f1 : Bf F c M1) (z hot : Bf F c MO) (ιwm : ℕ)
    (hchk : ∀ t : Fin k1_t1_loop.trips, k1_chk1 t (word c fI ⟨t.val, t.isLt⟩)) (hchk2 : ∀ t : Fin k1_t2_loop.trips, k1_chk2 t (word c fI ⟨t.val, t.isLt⟩))
    (hadm : ∀ t, (dstM t _ (hchk t)).view.Admitted (Elt F) (tgt c hot) ((srcM t).view.read (Elt F) (patch c f1)) Finset.univ)
    (fp : Bf F c MP) (W : Waits sig Unit) (Q : PUnit → sProp 𝕄) :
    iprop(pt c M0 fI ∗ pt c M1 f1 ∗ pt c MO z ∗ pt c MP fp ∗ wmInv embW ιwm ∗ semVal ((c : Thread nD τ), sem) 0 ∗ owes (c : Thread nD τ) (0 : CellTallies nD τ sig Unit) W
        ∗ (iprop(pt c M0 fI ∗ pt c M1 f1 ∗ pt c MO ((tiles c fI hchk).piecewise hot z) ∗ pt c MP (patch c f1)
            ∗ semVal ((c : Thread nD τ), sem) 0 ∗ ∃ W, owes (c : Thread nD τ) (0 : CellTallies nD τ sig Unit) W) -∗ Q ⟨⟩))
      ⊢ wp frame (wpE (defs₀ (F := F)) 𝒱₀ c none) Set.univ
          (cc1__scatter_kernel (F := F) M0 (hstage1_0 0) M1 (hstage1_1 0) MO (Memref.isWhole_whole _) MO (Memref.isWhole_whole _) MP (Memref.isWhole_whole _) cc1_scratch1) Q := by
  rw [cc1__scatter_kernel_eq_skeleton]
  unfold cc1__scatter_kernel_skel
  rw [k1_part3_eq_skeleton]
  unfold k1_part3_skel
  iintro ⟨H0, H1, HO, HP, #Hwm, Hs, HW, Hk⟩
  sl_exec
  have hP : MP.view.writes (Elt F) fp
      [⟨Rect.unit ![0, 0, 0, 0] S16x8x8x128.size inb_S16x8x8x128_S16x8x8x128_0_0_0_0,
          k1_pay1 (View.readAt (Elt F) M1.view (Rect.unit ![0, 0] S16x8.size inb_S16x8_S16x8_0_0).toLoadRect f1)⟩] = patch c f1 := by
    refine (View.read_writes_full MP.view fp _ _ []).trans ?_
    rw [View.readAt_full]; rfl
  rw [hP]
  imod (pointsTo_castIn (emb := embW) (g := tgt c hot) (E := Set.univ)) $$ [HO] with HO
  · isplitr; · iexact Hwm
    iexact HO
  imod (batch_alloc' embC (c : Thread nD τ) () amt (Dlv c fI z hot (patch c f1) hchk) (sm := sem) (E := Set.univ)) $$ Hs with HB
  rw [bind_assoc]
  iapply (Scf.wp_for_bind _ _ _ _ _ _ _ _ (k1_t1_body (F := F) M0 (hstage1_0 0) M1 (hstage1_1 0) MO (Memref.isWhole_whole _) MO (Memref.isWhole_whole _) MP (Memref.isWhole_whole _) cc1_scratch1)
    (fun k _ => inv1 c fI z hot (patch c f1) ιwm hchk k) (fun t _ => trip1 c fI z hot (patch c f1) ιwm hchk hadm t)) $$ [H0 HO HP HB]
  · unfold inv1
    isplitl [H0]; · iexact H0
    isplitr; · iexact Hwm
    isplitl [HO]; · iexact HO
    isplitl [HP]; · iexact HP
    isplitr; · rw [Finset.range_zero, bigSep_empty]; iempintro
    iexact HB
  iintro %_ HI
  rw [trips1]
  unfold inv1
  icases HI with ⟨H0, -, HO, HP, HR, HB⟩
  rw [pure_bind]
  iapply (Scf.wp_for_bind _ _ _ _ _ _ _ _ (k1_t2_body (F := F) M0 (hstage1_0 0) M1 (hstage1_1 0) MO (Memref.isWhole_whole _) MO (Memref.isWhole_whole _) MP (Memref.isWhole_whole _) cc1_scratch1)
    (fun k _ => inv2 c fI z hot (patch c f1) hchk k) (fun t _ => trip2 c fI z hot (patch c f1) hchk hchk2 t)) $$ [H0 HW HB]
  · unfold inv2
    isplitl [H0]; · iexact H0
    isplitl [HB]; · iexact HB
    iexists _; iexact HW
  iintro %_ HI
  rw [trips2]
  unfold inv2
  icases HI with ⟨H0, HB, HW⟩
  imod (batch_collect' embC (c := (c : Thread nD τ)) (sm := sem) (N := amt) (n := 128) (ι := ()) (by decide) (D := Dlv c fI z hot (patch c f1) hchk)) $$ [HB] with ⟨HD, Hs⟩
  · iexact HB
  ihave HD := (Entails.of_eq (deliveries_eq c fI z hot (patch c f1) hchk)) $$ HD
  icases HD with ⟨HDO, HDP⟩
  ihave HO' := (willBeTo_gather embW (ℓ := MO.view.loc (c : Thread nD τ)) (I := Finset.univ) (f := z) (g := tgt c hot) fullShare (fun i => (dstM (Fin.ofNat 128 i) _ (hchk (Fin.ofNat 128 i))).view.set) 128) $$ [HO HDO]
  · isplitl [HO]; · iexact HO
    iexact HDO
  ihave HP' := (patch_gather c (patch c f1)) $$ [HP HR HDP]
  · isplitl [HP]; · iexact HP
    isplitl [HDP]; · iexact HDP
    iexact HR
  imod (willBeTo_castOut_some (emb := embW) (g := hot) (E := Set.univ)) $$ [HO'] with HO
  · isplitr; · iexact Hwm
    iexact HO'
  rw [show (Pure.pure PUnit.unit : Prog (TpuEff nD τ sig (Elt F) Λ₀ .tc) PUnit) = .ret PUnit.unit from rfl]
  sl_step
  iapply Hk
  isplitl [H0]; · iexact H0
  isplitl [H1]; · iexact H1
  isplitl [HO]; · iexact HO
  isplitl [HP']; · iexact HP'
  isplitl [Hs] <;> iassumption

end Cert.Proof.Scatter
-- ==== Proof.ArgmaxRun.lean ====
/-
  The first call (`cc0__argmax_zero_kernel`) at one grid point: what its body stores, as functions of the block of
  logits it reads and of the running maximum and winner it finds.
-/
module

public import proofs.«01_k».proof.Proof.Scatter
public import Idealize.ShloMosaic.Lib.VecWindow

@[expose] public section

set_option maxRecDepth 16384

noncomputable section

namespace Cert.Proof.Argmax

open Cert.KernelIdeal Cert.KernelIdeal.Gen
open Cert.Proof.Scatter (UU pt Bf 𝒱₀)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU F) ℕ

/-- The columns of a point's block. -/
abbrev cols (i : grid0.Coords) : IVec S128x2048 32 := k0_pay1 i

/-- The two words of the counter-based generator as the body's parts hand them on. -/
abbrev v84 (i : grid0.Coords) : IVec S128x2048 32 := k0_pay24 (k0_pay10 i) (k0_pay11 i) k0_pay12
abbrev v89 (i : grid0.Coords) : IVec S128x2048 32 := k0_pay25 (k0_pay10 i) (k0_pay11 i) k0_pay12
abbrev v130 (i : grid0.Coords) : IVec S128x2048 32 := k0_pay37 (v84 i) (v89 i)
abbrev v135 (i : grid0.Coords) : IVec S128x2048 32 := k0_pay38 (v84 i) (v89 i)
/-- The uniform samples of a point's block. -/
abbrev unif (F : FTy → Type) [FloatOps F] (i : grid0.Coords) : FVec F S128x2048 .f32 := k0_pay39 (v130 i) (v135 i)

/-- Loads of whole buffers, as the run spells them. -/
theorem rdX {e : EltTy} (M : Memref sig .tc .vmem S128x2048 e) (f : M.view.ty.Contents (Elt F)) (h : ∀ a, (![0, 0] : Fin 2 → ℕ) a + (![128, 2048] : Fin 2 → ℕ) a ≤ S128x2048.size a) :
    View.readAt (Elt F) M.view (Rect.unit (s := S128x2048) ![0, 0] ![128, 2048] h).toLoadRect f = M.view.read (Elt F) f := View.readAt_full M.view f h

/-- A whole read of a column of 128 entries is the column. -/
theorem rdC {e : EltTy} (M : Memref sig .tc .vmem S128x1 e) (f : M.view.ty.Contents (Elt F)) (h : ∀ a, (![0, 0] : Fin 2 → ℕ) a + (![128, 1] : Fin 2 → ℕ) a ≤ S128x1.size a) :
    View.readAt (Elt F) M.view (Rect.unit (s := S128x1) ![0, 0] ![128, 1] h).toLoadRect f = M.view.read (Elt F) f := View.readAt_full M.view f h

variable (c : Dev nD) (i : grid0.Coords) (M1 : Memref sig .tc .vmem S128x2048 .f32) (h1 : M1.IsWhole) (M2 : Memref sig .tc .vmem S128x2048 .f32) (h2 : M2.IsWhole)
  (M3 : Memref sig .tc .vmem S128x1 .i32) (h3 : M3.IsWhole) (M4 : Memref sig .tc .vmem S128x1 .f32) (h4 : M4.IsWhole)

/-- The first point stores its block's maximum and the first column that attains it. -/
theorem run_first (hc1 : k0_cond1 i = 1#1) (hc2 : ¬ k0_cond2 i = 1#1) (x y : Vec F S128x2048 .f32) (n : Vec F S128x1 .i32) (m : Vec F S128x1 .f32) (Q : PUnit → sProp 𝕄) :
    iprop(owns (c : Thread nD τ) M1 fullShare x ∗ owns (c : Thread nD τ) M2 fullShare y ∗ owns (c : Thread nD τ) M3 fullShare n ∗ owns (c : Thread nD τ) M4 fullShare m
        ∗ (iprop(owns (c : Thread nD τ) M1 fullShare x ∗ owns (c : Thread nD τ) M2 fullShare (k0_pay41 (F := F))
            ∗ owns (c : Thread nD τ) M3 fullShare (k0_pay43 (cols i) (unif F i) x) ∗ owns (c : Thread nD τ) M4 fullShare (k0_pay44 (cols i) (unif F i) x)) -∗ Q ⟨⟩))
      ⊢ wp frame (wpE (defs₀ (F := F)) 𝒱₀ c none) Set.univ (cc0__argmax_zero_kernel (F := F) i M1 h1 M2 h2 M3 h3 M4 h4) Q := by
  rw [cc0__argmax_zero_kernel_eq_skeleton]
  unfold cc0__argmax_zero_kernel_skel
  rw [k0_part5_eq_skeleton]
  unfold k0_part5_skel
  rw [k0_part1_eq_skeleton, k0_part2_eq_skeleton, k0_part3_eq_skeleton, k0_part4_eq_skeleton]
  unfold k0_part1_skel k0_part2_skel k0_part3_skel k0_part4_skel
  unfold owns
  simp only [h1.set_eq_univ, h2.set_eq_univ, h3.set_eq_univ, h4.set_eq_univ]
  simp only [dif_pos hc1, dif_neg hc2]
  iintro ⟨⟨%f1, %e1, H1⟩, ⟨%f2, %e2, H2⟩, ⟨%f3, %e3, H3⟩, ⟨%f4, %e4, H4⟩, Hk⟩
  subst e1 e2 e3 e4
  sl_exec
  sl_step
  iapply Hk
  isplitl [H1]; · iexists _; isplitr; swap; (· iexact H1); ipureintro; rfl
  isplitl [H2]; · iexists _; isplitr; swap; (· iexact H2); ipureintro; exact View.read_writes_full M2.view _ _ _ _
  isplitl [H3]
  · iexists _; isplitr; swap; (· iexact H3)
    ipureintro
    refine (View.read_writes_full M3.view _ _ _ _).trans ?_
    simp only [rdX, rdC]
  iexists _; isplitr; swap; (· iexact H4)
  ipureintro
  refine (View.read_writes_full M4.view _ _ _ _).trans ?_
  simp only [rdX, rdC]

/-- A later point replaces the running maximum and winner by its block's where its maximum is greater. -/
theorem run_later (hc1 : ¬ k0_cond1 i = 1#1) (hc2 : k0_cond2 i = 1#1) (x y : Vec F S128x2048 .f32) (n : Vec F S128x1 .i32) (m : Vec F S128x1 .f32) (Q : PUnit → sProp 𝕄) :
    iprop(owns (c : Thread nD τ) M1 fullShare x ∗ owns (c : Thread nD τ) M2 fullShare y ∗ owns (c : Thread nD τ) M3 fullShare n ∗ owns (c : Thread nD τ) M4 fullShare m
        ∗ (iprop(owns (c : Thread nD τ) M1 fullShare x ∗ owns (c : Thread nD τ) M2 fullShare (k0_pay41 (F := F))
            ∗ owns (c : Thread nD τ) M3 fullShare (k0_pay47 (cols i) (unif F i) x m n) ∗ owns (c : Thread nD τ) M4 fullShare (k0_pay46 (cols i) (unif F i) x m m)) -∗ Q ⟨⟩))
      ⊢ wp frame (wpE (defs₀ (F := F)) 𝒱₀ c none) Set.univ (cc0__argmax_zero_kernel (F := F) i M1 h1 M2 h2 M3 h3 M4 h4) Q := by
  rw [cc0__argmax_zero_kernel_eq_skeleton]
  unfold cc0__argmax_zero_kernel_skel
  rw [k0_part5_eq_skeleton]
  unfold k0_part5_skel
  rw [k0_part1_eq_skeleton, k0_part2_eq_skeleton, k0_part3_eq_skeleton, k0_part4_eq_skeleton]
  unfold k0_part1_skel k0_part2_skel k0_part3_skel k0_part4_skel
  unfold owns
  simp only [h1.set_eq_univ, h2.set_eq_univ, h3.set_eq_univ, h4.set_eq_univ]
  simp only [dif_neg hc1, dif_pos hc2]
  iintro ⟨⟨%f1, %e1, H1⟩, ⟨%f2, %e2, H2⟩, ⟨%f3, %e3, H3⟩, ⟨%f4, %e4, H4⟩, Hk⟩
  subst e1 e2 e3 e4
  sl_exec
  sl_step
  iapply Hk
  isplitl [H1]; · iexists _; isplitr; swap; (· iexact H1); ipureintro; rfl
  isplitl [H2]; · iexists _; isplitr; swap; (· iexact H2); ipureintro; exact View.read_writes_full M2.view _ _ _ _
  isplitl [H3]
  · iexists _; isplitr; swap; (· iexact H3)
    ipureintro
    refine (View.read_writes_full M3.view _ _ _ _).trans ?_
    simp only [rdX, rdC]
  iexists _; isplitr; swap; (· iexact H4)
  ipureintro
  refine (View.read_writes_full M4.view _ _ _ _).trans ?_
  simp only [rdX, rdC]

end Cert.Proof.Argmax

end
-- ==== Proof.KernelWords.lean ====
/-
  The words the first call draws: at every column of every block, the generator's pair at key `(0, 42)` and at the
  counter of that column, and its fraction.
-/
module

public import proofs.«01_k».proof.Proof.ArgmaxRun
public import proofs.«01_k».proof.Proof.Words
public import Idealize.ShloMosaic.Lib.Pointwise

@[expose] public section

set_option maxRecDepth 16384

noncomputable section

namespace Cert.Proof.KernelWords

open Cert.KernelIdeal Cert.KernelIdeal.Gen
open Cert.Proof.Words
open Cert.Proof.Argmax (v84 v89 v130 v135 unif cols)
open Idealize.ShloMosaic

/-- A block of words, and a constant block. -/
abbrev B := IVec S128x2048 32

/-- One word at every lane of a block. -/
abbrev lit (w : W) : B := broadcast S128x2048 w

/-- The second half of a round, the sum that opens one, and a round, on blocks, as the first call computes them. -/
def halfB (r s : W) (p : B × B) : B × B := (p.1, xori (ori (shli p.2 (lit r)) (shrui p.2 (lit s))) p.1)
def openB (p : B × B) : B × B := (addi p.1 p.2, p.2)
def turnB (r s : W) (p : B × B) : B × B := halfB r s (openB p)

/-- Two words added, on blocks. -/
def addB (a b : W) (p : B × B) : B × B := (addi p.1 (lit a), addi p.2 (lit b))

/-- Four rounds of either kind on blocks. -/
def groupAB (p : B × B) : B × B :=
  turnB 6#32 26#32 (turnB 26#32 6#32 (turnB 15#32 17#32 (turnB 13#32 19#32 p)))
def groupBB (p : B × B) : B × B :=
  turnB 24#32 8#32 (turnB 16#32 16#32 (turnB 29#32 3#32 (turnB 17#32 15#32 p)))

/-- The pair of words a pair of blocks holds at an index. -/
def wordAt (p : B × B) (j : S128x2048.Idx) : W × W := (p.1 j, p.2 j)

/-- A round on blocks is the round on words, lane by lane. -/
theorem turnB_at (r s : W) (hr : r.toNat < 32) (hs : s.toNat < 32) (p : B × B) (j : S128x2048.Idx) :
    wordAt (turnB r s p) j = turn r s (wordAt p j) := by
  refine Prod.ext rfl ?_
  show ((if r.toNat < 32 then _ else _) ||| (if s.toNat < 32 then _ else _)) ^^^ (p.1 j + p.2 j) = _
  rw [if_pos hr, if_pos hs, BitVec.xor_comm]
  rfl

/-- The first kind of four rounds on blocks is that on words, lane by lane. -/
theorem groupAB_at (p : B × B) (j : S128x2048.Idx) : wordAt (groupAB p) j = groupA (wordAt p j) := by
  unfold groupAB groupA
  rw [turnB_at _ _ (by decide) (by decide), turnB_at _ _ (by decide) (by decide),
    turnB_at _ _ (by decide) (by decide), turnB_at _ _ (by decide) (by decide)]

/-- The second kind of four rounds on blocks is that on words, lane by lane. -/
theorem groupBB_at (p : B × B) (j : S128x2048.Idx) : wordAt (groupBB p) j = groupB (wordAt p j) := by
  unfold groupBB groupB
  rw [turnB_at _ _ (by decide) (by decide), turnB_at _ _ (by decide) (by decide),
    turnB_at _ _ (by decide) (by decide), turnB_at _ _ (by decide) (by decide)]

/-- Adding two words is adding two key words and a counter whose sums they are. -/
theorem addB_at (a b k n : W) (h : k + n = b) (p : B × B) (j : S128x2048.Idx) :
    wordAt (addB a b p) j = inject a k n (wordAt p j) := by
  subst h
  refine Prod.ext rfl ?_
  show p.2 j + (k + n) = p.2 j + k + n
  rw [BitVec.add_assoc]

/-- A pair whose second half has its addend already, with the first half's added, is the pair with both added. -/
theorem addB_of (x y : B) (p : B × B) (a n : W) (h : (x, y) = (p.1, addi p.2 (lit n))) :
    (addi x (lit a), y) = addB a n p := by
  obtain ⟨rfl, rfl⟩ := Prod.mk.inj h
  rfl

variable (i : grid0.Coords)

/-- The pair the generator starts from: the high counter, zero, with the first key word, and the low one with the second. -/
def startB : B × B := (addi (lit 0#32) (lit 0#32), k0_pay2 i)

/-- The generator up to its second group's key. -/
theorem first_eq : (k0_pay9 i, k0_pay10 i) = groupAB (startB i) := rfl

/-- The next stretch of the block computation: four rounds and the first part of a key addition. -/
theorem second_eq (x y z : B) : (k0_pay20 x y z, k0_pay21 x y z)
    = ((groupBB (y, addi x z)).1, addi (groupBB (y, addi x z)).2 (lit 2#32)) := rfl

/-- The key words added after the first four rounds. -/
theorem second_key : ((k0_pay11 i : B), addi (k0_pay10 i) k0_pay12) = addB 42#32 466689009#32 (k0_pay9 i, k0_pay10 i) := rfl

/-- The stretch after it: the rest of the key addition and two rounds. -/
theorem third_eq (x y z : B) : (k0_pay24 x y z, xori (k0_pay25 x y z) (k0_pay24 x y z))
    = turnB 15#32 17#32 (turnB 13#32 19#32 (addi (k0_pay20 x y z) (lit 466689008#32), k0_pay21 x y z)) := rfl

/-- The next: two rounds and the second half of a key addition. -/
theorem fourth_eq (x y : B) : (k0_pay29 x y, k0_pay30 x y)
    = ((turnB 6#32 26#32 (turnB 26#32 6#32 (x, xori y x))).1,
       addi (turnB 6#32 26#32 (turnB 26#32 6#32 (x, xori y x))).2 (lit 45#32)) := rfl

/-- The next: the rest of that addition and four rounds. -/
theorem fifth_eq (x y : B) : (k0_pay37 x y, xori (k0_pay38 x y) (k0_pay37 x y))
    = groupBB (addi (k0_pay29 x y) (lit 0#32), k0_pay30 x y) := rfl

/-- A pair of words as a fraction: the xor's upper bits as a mantissa, less one. -/
def frac {F : FTy → Type} [FloatOps F] (p : W × W) : F .f32 :=
  FloatOps.subf (FloatOps.ofBits .f32 ((p.1 ^^^ p.2) >>> 9#32 ||| 1065353216#32)) (FloatOps.ofBits .f32 0x3F800000#32)

variable {F : FTy → Type} [FloatOps F]

/-- The last: a key addition, four rounds, the last key addition, and the fraction. -/
theorem last_eq (x y : B) (j : S128x2048.Idx) : (k0_pay39 x y : FVec F S128x2048 .f32) j
    = frac (wordAt (addB 466689008#32 5#32 (groupAB (addB 42#32 466689012#32 (x, xori y x)))) j) := rfl

/-- The low word the generator starts from. -/
theorem pay2_at (j : S128x2048.Idx) : k0_pay2 i j = BitVec.ofNat 32 (j 0).val * 100000#32 + cols i j + 42#32 := by
  unfold k0_pay2
  generalize hc : k0_pay1 i = c
  have hc' : cols i = c := hc
  rw [hc']
  pointwise
  simp only [IntOp.addi, IntOp.muli]

/-- The third key word of the seed's key. -/
theorem third_key : third 0#32 42#32 = 466689008#32 := by decide

/-- The first call's fraction at a column is the fraction of the generator's pair at key `(0, 42)` and the counter the
    column has. -/
theorem unif_at (j : S128x2048.Idx) :
    (unif F i : FVec F S128x2048 .f32) j
      = frac (gen 0#32 42#32 0#32 (BitVec.ofNat 32 (j 0).val * 100000#32 + cols i j)) := by
  have e1 : wordAt (k0_pay9 i, k0_pay10 i) j
      = groupA (0#32 + 0#32, BitVec.ofNat 32 (j 0).val * 100000#32 + cols i j + 42#32) := by
    rw [first_eq, groupAB_at]
    exact congrArg groupA (Prod.ext rfl (pay2_at i j))
  have e2 : wordAt (addi (k0_pay20 (k0_pay10 i) (k0_pay11 i) k0_pay12) (lit 466689008#32),
      k0_pay21 (k0_pay10 i) (k0_pay11 i) k0_pay12) j
      = inject (third 0#32 42#32) 0#32 2#32 (groupB (inject 42#32 (third 0#32 42#32) 1#32
          (wordAt (k0_pay9 i, k0_pay10 i) j))) := by
    rw [addB_of _ _ _ 466689008#32 2#32 (second_eq _ _ _), addB_at _ _ 0#32 2#32 (by decide), groupBB_at, second_key,
      addB_at _ _ (third 0#32 42#32) 1#32 (by decide), third_key]
  have e3 : wordAt (v84 i, xori (v89 i) (v84 i)) j
      = turn 15#32 17#32 (turn 13#32 19#32 (wordAt (addi (k0_pay20 (k0_pay10 i) (k0_pay11 i) k0_pay12)
          (lit 466689008#32), k0_pay21 (k0_pay10 i) (k0_pay11 i) k0_pay12) j)) := by
    refine (congrArg (fun p : B × B => wordAt p j) (third_eq _ _ _)).trans ?_
    rw [turnB_at _ _ (by decide) (by decide), turnB_at _ _ (by decide) (by decide)]
  have e4 : wordAt (addi (k0_pay29 (v84 i) (v89 i)) (lit 0#32), k0_pay30 (v84 i) (v89 i)) j
      = inject 0#32 42#32 3#32 (turn 6#32 26#32 (turn 26#32 6#32 (wordAt (v84 i, xori (v89 i) (v84 i)) j))) := by
    rw [addB_of _ _ _ 0#32 45#32 (fourth_eq _ _), addB_at _ _ 42#32 3#32 (by decide), turnB_at _ _ (by decide) (by decide),
      turnB_at _ _ (by decide) (by decide)]
  have e5 : wordAt (v130 i, xori (v135 i) (v130 i)) j
      = groupB (wordAt (addi (k0_pay29 (v84 i) (v89 i)) (lit 0#32), k0_pay30 (v84 i) (v89 i)) j) := by
    refine (congrArg (fun p : B × B => wordAt p j) (fifth_eq _ _)).trans ?_
    rw [groupBB_at]
  refine (last_eq (v130 i) (v135 i) j).trans (congrArg frac ?_)
  rw [addB_at _ _ 0#32 5#32 (by decide), groupAB_at, addB_at _ _ (third 0#32 42#32) 4#32 (by decide), e5, e4, e3, e2,
    e1, third_key]
  rfl

end Cert.Proof.KernelWords
-- ==== Proof.Pick.lean ====
/-
  The host's arg-max over the extended reals: the index of a row's largest entry, the first of several.
-/
module

public import proofs.«01_k».proof.Proof.Spec
public import Idealize.ShloMosaic.PureOps.Ideal
public import Idealize.ShloMosaic.PureOps.Ideal.Laws
public import Idealize.ShloMosaic.Lib.Pointwise
public import Idealize.ShloMosaic.Lib.Affine

@[expose] public section

set_option maxRecDepth 16384

noncomputable section

namespace Cert.Proof.Pick

open Cert.ReferenceIdeal Cert.ReferenceIdeal.Facts₀
open Cert.Proof.Table (A argT)
open Idealize.ShloMosaic

/-- The place `v` is the first of a list's largest entries. -/
def First {n : ℕ} (y : Fin n → EReal) (v : Fin n) : Prop := ∀ v', y v' ≤ y v ∧ (v' < v → y v' < y v)

/-- There is at most one first greatest entry. -/
theorem First.unique {n : ℕ} {y : Fin n → EReal} {v w : Fin n} (hv : First y v) (hw : First y w) : v = w := by
  rcases lt_trichotomy v w with h | h | h
  · exact absurd ((hw v).2 h) (not_lt.mpr (hv w).1)
  · exact h
  · exact absurd ((hv w).2 h) (not_lt.mpr (hw v).1)

/-- A change of the entries that keeps their order keeps the first largest. -/
theorem First.mono {n : ℕ} {y z : Fin n → EReal} (h : ∀ v w, y v < y w ↔ z v < z w) {v : Fin n} (hv : First y v) :
    First z v := fun v' =>
  ⟨not_lt.mp fun hl => absurd ((h v v').mpr hl) (not_lt.mpr (hv v').1), fun hl => (h v' v).mp ((hv v').2 hl)⟩

/-- A pair of a value and an index, and the order the arg-max picks by. -/
abbrev P := Ideal .f32 × BitVec 32

/-- An entry with its index is at least as good as another: it is greater, or equal with no greater an index. -/
def better (p q : P) : Prop := (q.1 : EReal) < p.1 ∨ ((p.1 : EReal) = q.1 ∧ p.2.toInt ≤ q.2.toInt)

/-- Every entry is as good as itself. -/
theorem better_refl (p : P) : better p p := .inr ⟨rfl, le_refl _⟩

/-- Being as good passes through a middle entry. -/
theorem better_trans {p q r : P} (h : better p q) (h' : better q r) : better p r := by
  rcases h with h | ⟨h, hi⟩ <;> rcases h' with h' | ⟨h', hi'⟩
  · exact .inl (lt_trans h' h)
  · exact .inl (h' ▸ h)
  · exact .inl (by rw [h]; exact h')
  · exact .inr ⟨h.trans h', hi.trans hi'⟩

/-- A comparison answers one where the condition it decides holds. -/
theorem cmp_eq_one (p : CmpFPredicate) (a b : EReal) (c : Prop) [Decidable c] (h : Ideal.cmp p a b = BitVec.ofBool (decide c)) :
    Ideal.cmp p a b = 1#1 ↔ c := by
  rw [h]; by_cases hc : c <;> simp [hc]

/-- One step of the arg-max keeps one of its two pairs, the better one. -/
theorem step (a b : P) : (reducer_argmax_f32_i32 (F := Ideal) a b = a ∧ better a b)
    ∨ (reducer_argmax_f32_i32 (F := Ideal) a b = b ∧ better b a) := by
  have e : reducer_argmax_f32_i32 (F := Ideal) a b
      = (if Ideal.cmp .ogt a.1 b.1 ||| Ideal.cmp .une a.1 a.1 = 1#1 then a.1 else b.1,
         if (Ideal.cmp .ogt a.1 b.1 ||| Ideal.cmp .une a.1 a.1) ||| (Ideal.cmp .oeq a.1 b.1 &&& IntOp.cmpi .slt a.2 b.2) = 1#1
          then a.2 else b.2) := rfl
  have hu : Ideal.cmp .une a.1 a.1 = 0#1 := by simp [Ideal.cmp]
  have hg : Ideal.cmp .ogt a.1 b.1 = BitVec.ofBool (decide ((b.1 : EReal) < a.1)) := rfl
  have he : Ideal.cmp .oeq a.1 b.1 = BitVec.ofBool (decide ((a.1 : EReal) = b.1)) := rfl
  have hs : IntOp.cmpi .slt a.2 b.2 = BitVec.ofBool (decide (a.2.toInt < b.2.toInt)) := by
    rfl
  rw [e, hu, hg, he, hs]
  by_cases h1 : (b.1 : EReal) < a.1
  · refine .inl ⟨?_, .inl h1⟩
    have h2 : ¬ (a.1 : EReal) = b.1 := ne_of_gt h1
    simp [h1, h2]
  · by_cases h2 : (a.1 : EReal) = b.1
    · by_cases h3 : a.2.toInt < b.2.toInt
      · refine .inl ⟨?_, .inr ⟨h2, h3.le⟩⟩
        refine Prod.ext ?_ ?_
        · simp [h1, h2]
        · simp [h2, h3]
      · refine .inr ⟨?_, .inr ⟨h2.symm, not_lt.mp h3⟩⟩
        simp [h1, h3]
    · refine .inr ⟨?_, .inl (lt_of_le_of_ne (not_lt.mp h1) h2)⟩
      simp [h1, h2]

/-- The whole fold ends at one of its pairs, better than every one. -/
theorem fold_best (l : List P) : ∀ p : P,
    (l.foldl (reducer_argmax_f32_i32 (F := Ideal)) p = p ∨ l.foldl (reducer_argmax_f32_i32 (F := Ideal)) p ∈ l)
      ∧ better (l.foldl (reducer_argmax_f32_i32 (F := Ideal)) p) p
      ∧ ∀ q ∈ l, better (l.foldl (reducer_argmax_f32_i32 (F := Ideal)) p) q := by
  induction l with
  | nil => exact fun p => ⟨.inl rfl, better_refl p, fun q h => absurd h (List.not_mem_nil)⟩
  | cons a l ih =>
    intro p
    rw [List.foldl_cons]
    obtain ⟨h1, h2, h3⟩ := ih (reducer_argmax_f32_i32 (F := Ideal) p a)
    rcases step p a with ⟨e, hb⟩ | ⟨e, hb⟩ <;> rw [e] at h1 h2 h3 ⊢
    · refine ⟨h1.imp id (List.mem_cons_of_mem a), h2, fun q hq => ?_⟩
      rcases List.mem_cons.mp hq with rfl | hq
      · exact better_trans h2 hb
      · exact h3 q hq
    · refine ⟨.inr ?_, better_trans h2 hb, fun q hq => ?_⟩
      · rcases h1 with h1 | h1
        · rw [h1]; exact List.mem_cons_self
        · exact List.mem_cons_of_mem a h1
      · rcases List.mem_cons.mp hq with rfl | hq
        · exact h2
        · exact h3 q hq

/-- The pairs a fold at an index goes over are those of the entries that reduce to it. -/
theorem mem_fiber {s t : Shape} {axes : List (Fin s.rank)} {α β : Type} (x : s.Idx → α) (y : s.Idx → β)
    (h : s.ReducesTo axes t) (j : t.Idx) (p : α × β) :
    p ∈ Host.argReduceFiber x y h j ↔ ∃ i, h.drop i = j ∧ p = (x i, y i) := by
  unfold Host.argReduceFiber
  rw [List.mem_map]
  constructor
  · rintro ⟨n, hn, rfl⟩
    exact ⟨_, of_decide_eq_true (List.mem_filter.mp hn).2, rfl⟩
  · rintro ⟨i, hi, rfl⟩
    refine ⟨s.rowMajor i, ?_, ?_⟩
    · rw [List.mem_filter]
      refine ⟨List.mem_finRange _, decide_eq_true ?_⟩
      rw [Equiv.symm_apply_apply]
      exact hi
    · rw [Equiv.symm_apply_apply]

/-- The fold of the arg-max, as the best of its pairs, at any table. -/
theorem arg_best {s t u : Shape} {axes : List (Fin s.rank)} (x : FVec Ideal s .f32) (y : s.Idx → BitVec 32)
    (ix : u.Idx → Ideal .f32) (iy : u.Idx → BitVec 32) (h : s.ReducesTo axes t) (hu : 0 < u.numel) (j : t.Idx) :
    (Host.argReduce (reducer_argmax_f32_i32 (F := Ideal)) x y ix iy h hu j = (ix (Shape.Idx.first hu), iy (Shape.Idx.first hu))
      ∨ ∃ i, h.drop i = j ∧ Host.argReduce (reducer_argmax_f32_i32 (F := Ideal)) x y ix iy h hu j = (x i, y i))
    ∧ ∀ i, h.drop i = j → better (Host.argReduce (reducer_argmax_f32_i32 (F := Ideal)) x y ix iy h hu j) (x i, y i) := by
  rw [Ideal.argReduce_eq_reduce2, Host.reduce2_eq_foldl_fiber]
  obtain ⟨h1, -, h3⟩ := fold_best (Host.argReduceFiber x y h j) (ix (Shape.Idx.first hu), iy (Shape.Idx.first hu))
  exact ⟨h1.imp id (mem_fiber x y h j _).mp, fun i hi => h3 _ ((mem_fiber x y h j _).mpr ⟨i, hi, rfl⟩)⟩

/-- A pair of a list's entries and places, better than all of them, holds the first largest entry's place. -/
theorem first_of {n : ℕ} (hn : n ≤ 2 ^ 31) (v₀ : Fin n) (y : Fin n → EReal) (hy : ∀ v, ⊥ < y v) (w p₀ : P) (hp : (p₀.1 : EReal) = ⊥)
    (h1 : w = p₀ ∨ ∃ v : Fin n, w = (y v, BitVec.ofNat 32 v.val))
    (h4 : ∀ v : Fin n, better w (y v, BitVec.ofNat 32 v.val)) :
    ∃ v : Fin n, w.2 = BitVec.ofNat 32 v.val ∧ First y v := by
  have hw : ∃ v : Fin n, w = (y v, BitVec.ofNat 32 v.val) := by
    rcases h1 with h1 | h1
    · exfalso
      have hb := h4 v₀
      rw [h1] at hb
      rcases hb with hb | ⟨hb, -⟩
      · rw [hp] at hb; exact absurd hb not_lt_bot
      · rw [hp] at hb; exact absurd hb (ne_of_lt (hy v₀))
    · exact h1
  obtain ⟨v, rfl⟩ := hw
  have hint : ∀ v : Fin n, (BitVec.ofNat 32 v.val).toInt = (v.val : ℤ) := fun v => by
    have := v.isLt
    rw [BitVec.toInt_eq_toNat_of_lt (by rw [BitVec.toNat_ofNat]; omega), BitVec.toNat_ofNat]; omega
  refine ⟨v, rfl, fun v' => ?_⟩
  rcases h4 v' with hb | ⟨hb, hi⟩
  · exact ⟨le_of_lt hb, fun _ => hb⟩
  · refine ⟨le_of_eq hb.symm, fun hl => ?_⟩
    rw [hint, hint] at hi
    have : v'.val < v.val := hl
    omega

/-- The arg-max at a result index whose entries are listed by their places: the first largest entry's place. -/
theorem first_arg {s t u : Shape} {axes : List (Fin s.rank)} (x : FVec Ideal s .f32) (y : s.Idx → BitVec 32)
    (ix : u.Idx → Ideal .f32) (iy : u.Idx → BitVec 32) (h : s.ReducesTo axes t) (hu : 0 < u.numel) (j : t.Idx)
    {n : ℕ} (hn : n ≤ 2 ^ 31) (v₀ : Fin n) (row : Fin n → s.Idx) (hin : ∀ v, h.drop (row v) = j)
    (hout : ∀ i, h.drop i = j → ∃ v, i = row v) (hi : ∀ v, y (row v) = BitVec.ofNat 32 v.val)
    (hx : ∀ v, (⊥ : EReal) < x (row v)) (hix : (ix (Shape.Idx.first hu) : EReal) = ⊥) (g : t.Idx → P)
    (hg : g = Host.argReduce (reducer_argmax_f32_i32 (F := Ideal)) x y ix iy h hu) :
    ∃ v : Fin n, (g j).2 = BitVec.ofNat 32 v.val ∧ First (fun v => x (row v)) v := by
  subst hg
  obtain ⟨h1, h3⟩ := arg_best x y ix iy h hu j
  refine first_of hn v₀ (fun v => x (row v)) hx _ _ hix (h1.imp id ?_) fun v => ?_
  · rintro ⟨i, hd, e⟩
    obtain ⟨v, rfl⟩ := hout i hd
    exact ⟨v, by rw [e, hi]⟩
  · rw [← hi v]; exact h3 (row v) (hin v)

/-- The arg-max's pairs, and the arg-max as their second halves. -/
def pairT (y : A Ideal) : S128.Idx → P :=
  Host.argReduce (reducer_argmax_f32_i32 (F := Ideal)) y (iotaInDim S128x100000 32 1) (constant S_ .f32 0xFF800000#32)
    (constantI S_ 32 0#32) reducesTo_S128x100000_S128_d1 h_S_

/-- The index of the largest entry is the second part of the pair reduced. -/
theorem argT_eq (y : A Ideal) : argT y = fun j => (pairT y j).2 := by
  delta argT pairT; with_reducible rfl

/-- The arg-max of a row whose entries all lie above the lower end is the first largest entry's column. -/
theorem argT_first (y : A Ideal) (r : Fin 128) (hy : ∀ v : Fin 100000, (⊥ : EReal) < y (ix2 r v)) :
    ∃ v : Fin 100000, argT y (ix1 r) = BitVec.ofNat 32 v.val ∧ First (fun v => y (ix2 r v)) v := by
  rw [argT_eq]
  refine first_arg y (iotaInDim S128x100000 32 1) (constant S_ .f32 0xFF800000#32) (constantI S_ 32 0#32)
    reducesTo_S128x100000_S128_d1 h_S_ (ix1 r) (by decide) ⟨0, by decide⟩ (fun v => ix2 r v) ?_ ?_ (fun v => rfl) hy ?_
    (pairT y) (by delta pairT; with_reducible rfl)
  · intro v
    funext b
    match b with
    | ⟨0, _⟩ => rfl
  · intro i hd
    have h0 : i 0 = r := congrFun hd 0
    exact ⟨i 1, by rw [← h0]; exact eq_ix2 i⟩
  · show Ideal.ofBits .f32 0xFF800000#32 = (⊥ : EReal)
    simp [Ideal.ofBits, Ideal.ieee]

end Cert.Proof.Pick
-- ==== Proof.RealScore.lean ====
/-
  The generator's fraction and the perturbed logit over the extended reals: the fraction is a real number from zero up to
  one, and a real logit's score is real.
-/
module

public import Idealize.ShloMosaic.PureOps.Ideal
public import Idealize.ShloMosaic.PureOps.Ideal.Laws
public import Idealize.ShloMosaic.Lib.IdealHost

@[expose] public section

set_option maxRecDepth 16384

noncomputable section

namespace Cert.Proof.RealScore

open Idealize.ShloMosaic

/-- A word with the exponent of one and a mantissa of 23 bits is a real number at least one and less than two by one unit
    of the mantissa at least. -/
theorem mantissa (x : BitVec 32) : ∃ r : ℝ, 1 ≤ r ∧ r ≤ 2 - 1 / 2 ^ 23 ∧ Ideal.ofBits .f32 (x >>> 9#32 ||| 1065353216#32) = ((r : ℝ) : EReal) := by
  have hx : x.toNat < 2 ^ 32 := x.isLt
  have hb : (x >>> 9#32 ||| 1065353216#32).toNat = 2 ^ 23 * 127 + x.toNat / 512 := by
    rw [BitVec.toNat_or, Nat.or_comm]
    have h9 : (x >>> 9#32).toNat = x.toNat / 512 := by
      show (x >>> (9 : ℕ)).toNat = _
      rw [BitVec.toNat_ushiftRight, Nat.shiftRight_eq_div_pow]
    rw [h9, Nat.two_pow_add_eq_or_of_lt (i := 23) (by omega)]
    rfl
  generalize x >>> 9#32 ||| 1065353216#32 = b at hb
  have hf : (b.extractLsb' 0 23).toNat = x.toNat / 512 := by
    rw [BitVec.extractLsb'_toNat, hb, Nat.shiftRight_eq_div_pow]; omega
  have he : (b.extractLsb' 23 8).toNat = 127 := by
    rw [BitVec.extractLsb'_toNat, hb, Nat.shiftRight_eq_div_pow]; omega
  have hs : (b.extractLsb' (8 + 23) 1 == 1#1) = false := by
    have : (b.extractLsb' (8 + 23) 1).toNat = 0 := by
      rw [BitVec.extractLsb'_toNat, hb, Nat.shiftRight_eq_div_pow]; omega
    rw [beq_eq_false_iff_ne]; intro h; rw [h] at this; exact absurd this (by decide)
  refine ⟨(2 ^ 23 + x.toNat / 512 : ℕ) * (2 : ℝ) ^ (-23 : ℤ), ?_, ?_, ?_⟩
  · have : ((2 ^ 23 : ℕ) : ℝ) ≤ (2 ^ 23 + x.toNat / 512 : ℕ) := by exact_mod_cast Nat.le_add_right _ _
    have h2 : (2 : ℝ) ^ (-23 : ℤ) = 1 / 2 ^ 23 := by norm_num
    rw [h2]; push_cast at this ⊢; rw [mul_one_div, le_div_iff₀ (by positivity)]; linarith
  · have hlt : 2 ^ 23 + x.toNat / 512 < 2 * 2 ^ 23 := by omega
    have : ((2 ^ 23 + x.toNat / 512 + 1 : ℕ) : ℝ) ≤ ((2 * 2 ^ 23 : ℕ) : ℝ) := by exact_mod_cast hlt
    have h2 : (2 : ℝ) ^ (-23 : ℤ) = 1 / 2 ^ 23 := by norm_num
    rw [h2]; push_cast at this ⊢; rw [mul_one_div, div_le_iff₀ (by positivity)]; linarith
  · show Ideal.ieee 8 23 b = _
    unfold Ideal.ieee
    simp only [hs, he, hf]
    norm_num

/-- The small number both logarithms are kept from zero by is real, positive and less than a unit of the mantissa. -/
theorem eps : ∃ e : ℝ, 0 < e ∧ e < 1 / 2 ^ 23 ∧ Ideal.ofBits .f32 0x322BCC77#32 = ((e : ℝ) : EReal) := by
  refine ⟨11258999 * (2 : ℝ) ^ (-50 : ℤ), by positivity, by norm_num, ?_⟩
  simp [Ideal.ofBits, Ideal.ieee]

/-- The temperature is five, the mask and the infinity are the two ends. -/
theorem five : Ideal.ofBits .f32 0x40A00000#32 = ((5 : ℝ) : EReal) := by
  have h : Ideal.ofBits .f32 0x40A00000#32 = ((10485760 * (1 / 2097152 : ℝ) : ℝ) : EReal) := by
    simp [Ideal.ofBits, Ideal.ieee]
    norm_num
  rw [h]
  exact congrArg Real.toEReal (by norm_num)

/-- The word of −∞ is the lower end. -/
theorem low : Ideal.ofBits .f32 0xFF800000#32 = ⊥ := by simp [Ideal.ofBits, Ideal.ieee]

/-- The word of +∞ is the upper end. -/
theorem high : Ideal.ofBits .f32 0x7F800000#32 = ⊤ := by simp [Ideal.ofBits, Ideal.ieee]

/-- The fraction a word gives: its mantissa less one. -/
def fraction (x : BitVec 32) : EReal := Ideal.ofBits .f32 (x >>> 9#32 ||| 1065353216#32) - Ideal.ofBits .f32 0x3F800000#32

/-- A fraction is real, at least zero, and less than one by a unit of the mantissa at least. -/
theorem fraction_real (x : BitVec 32) : ∃ u : ℝ, 0 ≤ u ∧ u ≤ 1 - 1 / 2 ^ 23 ∧ fraction x = ((u : ℝ) : EReal) := by
  obtain ⟨r, h1, h2, h3⟩ := mantissa x
  refine ⟨r - 1, by linarith, by linarith, ?_⟩
  unfold fraction
  rw [h3, Ideal.ofBits_one_f32]
  rfl

/-- The score of a logit and a uniform number: the logit with the double logarithm taken off, over the temperature. -/
def score (a u : EReal) : EReal :=
  Ideal.div (a + -Ideal.log (-Ideal.log (u + Ideal.ofBits .f32 0x322BCC77#32) + Ideal.ofBits .f32 0x322BCC77#32))
    (Ideal.ofBits .f32 0x40A00000#32)

/-- A real logit's score is real. -/
theorem score_real (a : ℝ) (x : BitVec 32) : ∃ z : ℝ, score a (fraction x) = ((z : ℝ) : EReal) := by
  obtain ⟨u, h1, h2, h3⟩ := fraction_real x
  obtain ⟨e, h4, h5, h6⟩ := eps
  unfold score
  rw [h3, h6, five, ← EReal.coe_add, Ideal.log_coe, if_neg (by linarith), ← EReal.coe_neg, ← EReal.coe_add,
    Ideal.log_coe]
  have hl : Real.log (u + e) ≤ 0 := Real.log_nonpos (by linarith) (by linarith)
  rw [if_neg (by linarith), ← EReal.coe_neg, ← EReal.coe_add]
  unfold Ideal.div
  rw [if_neg (by norm_num), ← EReal.coe_inv, ← EReal.coe_mul]
  exact ⟨_, rfl⟩

end Cert.Proof.RealScore
-- ==== Proof.RefValue.lean ====
/-
  The reference over the extended reals: its uniform numbers are the generator's fractions, its scores the perturbed
  logits, its softmax keeps the order of a row's scores, and its result is the one-hot row of the first largest.
-/
module

public import proofs.«01_k».proof.Proof.Pick
public import proofs.«01_k».proof.Proof.RealScore

@[expose] public section

set_option maxRecDepth 16384

noncomputable section

namespace Cert.Proof.RefValue

open Cert.ReferenceIdeal Cert.ReferenceIdeal.Facts₀
open Cert.Proof.Table Cert.Proof.Words Cert.Proof.RealScore Cert.Proof.Pick
open Idealize.ShloMosaic

/-- The generator's word pair at a row and a column, by key `(0, 42)` and the counter. -/
def word (r v : ℕ) : W × W := gen 0#32 42#32 0#32 (BitVec.ofNat 32 (100000 * r + v))

/-- The key's first word is 0. -/
theorem key0_o : key0 o = 0#32 := by decide

/-- The key's second word is 42. -/
theorem key1_o : key1 o = 42#32 := by decide

/-- An entry's counter is its place in row-major order. -/
theorem count_at (r : Fin 128) (v : Fin 100000) : (count (ix2 r v)).toNat = 100000 * r.val + v.val := by
  have hr := r.isLt
  have hv := v.isLt
  show (100000#64 * BitVec.ofNat 64 r.val + 1#64 * BitVec.ofNat 64 v.val).toNat = _
  simp only [BitVec.toNat_add, BitVec.toNat_mul, BitVec.toNat_ofNat]
  omega

/-- The low half of the counter is that place as a word. -/
theorem loT_at (r : Fin 128) (v : Fin 100000) : loT (ix2 r v) = BitVec.ofNat 32 (100000 * r.val + v.val) := by
  show (count (ix2 r v)).setWidth 32 = _
  apply BitVec.eq_of_toNat_eq
  rw [BitVec.toNat_setWidth, count_at, BitVec.toNat_ofNat]

/-- The high half is zero. -/
theorem hiT_at (r : Fin 128) (v : Fin 100000) : hiT (ix2 r v) = 0#32 := by
  have hr := r.isLt
  have hv := v.isLt
  show ((count (ix2 r v)) >>> 32).setWidth 32 = _
  apply BitVec.eq_of_toNat_eq
  rw [BitVec.toNat_setWidth, BitVec.toNat_ushiftRight, count_at, Nat.shiftRight_eq_div_pow]
  rw [Nat.div_eq_of_lt (by omega)]
  rfl

/-- The reference's fraction at an index, from the pair of words there. -/
theorem fracT_at (p : T × T) (i : S128x100000.Idx) :
    (fracT p : A Ideal) i = fraction ((wordAt p i).1 ^^^ (wordAt p i).2) := rfl

/-- An entry of the uniform numbers, from its fraction. -/
theorem unifT_at (p : T × T) (i : S128x100000.Idx) : (unifT p : A Ideal) i
    = max (Ideal.ofBits .f32 0x00000000#32) ((fracT p : A Ideal) i
        * (Ideal.ofBits .f32 0x3F800000#32 - Ideal.ofBits .f32 0x00000000#32) + Ideal.ofBits .f32 0x00000000#32) := rfl

/-- The reference's uniform number is the fraction itself. -/
theorem noiseT_at (r : Fin 128) (v : Fin 100000) :
    (noiseT : A Ideal) (ix2 r v) = fraction ((word r.val v.val).1 ^^^ (word r.val v.val).2) := by
  unfold noiseT
  rw [unifT_at, fracT_at, genT_at, key0_o, key1_o, loT_at, hiT_at, Ideal.ofBits_zero_f32, Ideal.ofBits_one_f32]
  change max 0 (fraction ((word r.val v.val).1 ^^^ (word r.val v.val).2) * (1 - 0) + 0) = _
  obtain ⟨u, h0, -, hu⟩ := fraction_real ((word r.val v.val).1 ^^^ (word r.val v.val).2)
  rw [hu, sub_zero, mul_one, add_zero]
  exact max_eq_right (by exact_mod_cast h0)

/-- The reference's score at an index. -/
theorem scoreT_at (x u : A Ideal) (i : S128x100000.Idx) : (scoreT x u : A Ideal) i = score (x i) (u i) := rfl

/-- The score of a row's logit at a column. -/
def sc (x : A Ideal) (r : Fin 128) (v : Fin 100000) : EReal :=
  score (x (ix2 r v)) (fraction ((word r.val v.val).1 ^^^ (word r.val v.val).2))

/-- An entry of the reference's scores. -/
theorem scoreT_sc (x : A Ideal) (r : Fin 128) (v : Fin 100000) : (scoreT x noiseT : A Ideal) (ix2 r v) = sc x r v := by
  rw [scoreT_at, noiseT_at]; rfl

/-- The score of a finite logit is finite. -/
theorem sc_real (x : A Ideal) (r : Fin 128) (v : Fin 100000) (h : ∃ a : ℝ, x (ix2 r v) = ((a : ℝ) : EReal)) :
    ∃ z : ℝ, sc x r v = ((z : ℝ) : EReal) := by
  obtain ⟨a, ha⟩ := h
  unfold sc; rw [ha]; exact score_real a _

/-- The greatest of some reals is real. -/
theorem fold_real {ι : Type} [DecidableEq ι] (f : ι → EReal) (hf : ∀ i, ∃ a : ℝ, f i = ((a : ℝ) : EReal)) (s : Finset ι) :
    s.Nonempty → ∃ a : ℝ, s.fold max ⊥ f = ((a : ℝ) : EReal) := by
  induction s using Finset.induction_on with
  | empty => exact fun h => absurd h (by simp)
  | insert i s hi ih =>
    intro _
    rw [Finset.fold_insert hi]
    obtain ⟨a, ha⟩ := hf i
    rcases s.eq_empty_or_nonempty with rfl | hs
    · exact ⟨a, by rw [Finset.fold_empty, ha]; exact max_bot_right _⟩
    · obtain ⟨b, hb⟩ := ih hs
      exact ⟨max a b, by rw [ha, hb]; exact (EReal.coe_strictMono.monotone.map_max).symm⟩

/-- A sum of positive reals is a positive real. -/
theorem sum_real {ι : Type} [DecidableEq ι] (f : ι → EReal) (hf : ∀ i, ∃ a : ℝ, 0 < a ∧ f i = ((a : ℝ) : EReal)) (s : Finset ι) :
    s.Nonempty → ∃ a : ℝ, 0 < a ∧ ∑ i ∈ s, f i = ((a : ℝ) : EReal) := by
  induction s using Finset.induction_on with
  | empty => exact fun h => absurd h (by simp)
  | insert i s hi ih =>
    intro _
    rw [Finset.sum_insert hi]
    obtain ⟨a, ha0, ha⟩ := hf i
    rcases s.eq_empty_or_nonempty with rfl | hs
    · exact ⟨a, ha0, by rw [Finset.sum_empty, add_zero, ha]⟩
    · obtain ⟨b, hb0, hb⟩ := ih hs
      exact ⟨a + b, by linarith, by rw [ha, hb]; rfl⟩

/-- The host's maximum over some real entries is real. -/
theorem reduceMax_real {s t u : Shape} {axes : List (Fin s.rank)} (x : FVec Ideal s .f32) (init : u.Idx → Ideal .f32)
    (h : s.ReducesTo axes t) (hu : 0 < u.numel) (j : t.Idx) (hi : (init (Shape.Idx.first hu) : EReal) = ⊥)
    (hx : ∀ i, ∃ a : ℝ, (x i : EReal) = ((a : ℝ) : EReal)) (i₀ : s.Idx) (h₀ : h.drop i₀ = j)
    (g : t.Idx → Ideal .f32) (hg : g = Host.reduce (FloatOps.maximumf (F := Ideal) (φ := .f32)) x init h hu) :
    ∃ a : ℝ, (g j : EReal) = ((a : ℝ) : EReal) := by
  subst hg
  haveI : Std.Commutative (FloatOps.maximumf (F := Ideal) (φ := .f32)) := ⟨fun a b => max_comm (a : EReal) b⟩
  haveI : Std.Associative (FloatOps.maximumf (F := Ideal) (φ := .f32)) := ⟨fun a b c => max_assoc (a : EReal) b c⟩
  rw [Host.reduce_eq_fold, hi]
  classical
  exact fold_real x hx _ ⟨i₀, Finset.mem_filter.mpr ⟨Finset.mem_univ _, h₀⟩⟩

/-- The host's sum of some positive reals is a positive real. -/
theorem reduceAdd_real {s t u : Shape} {axes : List (Fin s.rank)} (x : FVec Ideal s .f32) (init : u.Idx → Ideal .f32)
    (h : s.ReducesTo axes t) (hu : 0 < u.numel) (j : t.Idx) (hi : (init (Shape.Idx.first hu) : EReal) = 0)
    (hx : ∀ i, ∃ a : ℝ, 0 < a ∧ (x i : EReal) = ((a : ℝ) : EReal)) (i₀ : s.Idx) (h₀ : h.drop i₀ = j)
    (g : t.Idx → Ideal .f32) (hg : g = Host.reduceAdd x init h hu) : ∃ a : ℝ, 0 < a ∧ (g j : EReal) = ((a : ℝ) : EReal) := by
  subst hg
  classical
  obtain ⟨a, ha, e⟩ := sum_real x hx (Finset.univ.filter fun i => h.drop i = j)
    ⟨i₀, Finset.mem_filter.mpr ⟨Finset.mem_univ _, h₀⟩⟩
  refine ⟨a, ha, ?_⟩
  rw [ValueIdx.hostReduceAdd_apply]
  unfold Ideal.hostReduceAdd
  rw [hi, zero_add]
  exact e

/-- A value per row, read at any column of the row. -/
theorem rows_at (v : FVec Ideal S128 .f32) (r : Fin 128) (c : Fin 100000) : rows v (ix2 r c) = v (ix1 r) := by
  refine congrArg v (funext fun b => ?_)
  match b with
  | ⟨0, _⟩ => rfl

/-- Each row's host maximum, and each row's sum. -/
def maxT (z : A Ideal) : FVec Ideal S128 .f32 :=
  Host.reduce FloatOps.maximumf z (constant S_ .f32 0xFF800000#32) reducesTo_S128x100000_S128_d1 h_S_

/-- The sum of each row. -/
def sumT (z : A Ideal) : FVec Ideal S128 .f32 :=
  Host.reduceAdd z (constant S_ .f32 0x00000000#32) reducesTo_S128x100000_S128_d1 h_S_

/-- The subtracted maximum: the row maximum, and −∞ at the least. -/
theorem topT_eq (z : A Ideal) :
    topT z = maximumf (broadcastInDim S128 ![] bcast_S_S128 (constant S_ .f32 0xFF800000#32)) (maxT z) := by
  delta topT maxT; with_reducible rfl

/-- The softmax: the exponentials over their row sums. -/
theorem softT_eq (z : A Ideal) : softT z = Host.divf (expT z) (rows (sumT (expT z))) := by
  delta softT sumT; with_reducible rfl

/-- The maximum of finite entries is finite. -/
theorem maxT_real (z : A Ideal) (hz : ∀ i, ∃ a : ℝ, (z i : EReal) = ((a : ℝ) : EReal)) (r : Fin 128) :
    ∃ a : ℝ, (maxT z (ix1 r) : EReal) = ((a : ℝ) : EReal) := by
  refine reduceMax_real z (constant S_ .f32 0xFF800000#32) reducesTo_S128x100000_S128_d1 h_S_ (ix1 r) low hz
    (ix2 r ⟨0, by decide⟩) ?_ (maxT z) (by delta maxT; with_reducible rfl)
  funext b
  match b with
  | ⟨0, _⟩ => rfl

/-- The sum of positive finite entries is positive and finite. -/
theorem sumT_real (z : A Ideal) (hz : ∀ i, ∃ a : ℝ, 0 < a ∧ (z i : EReal) = ((a : ℝ) : EReal)) (r : Fin 128) :
    ∃ a : ℝ, 0 < a ∧ (sumT z (ix1 r) : EReal) = ((a : ℝ) : EReal) := by
  refine reduceAdd_real z (constant S_ .f32 0x00000000#32) reducesTo_S128x100000_S128_d1 h_S_ (ix1 r) Ideal.ofBits_zero_f32 hz
    (ix2 r ⟨0, by decide⟩) ?_ (sumT z) (by delta sumT; with_reducible rfl)
  funext b
  match b with
  | ⟨0, _⟩ => rfl

/-- The greater of a constant and an entry. -/
theorem max_at (w : BitVec 32) (m : FVec Ideal S128 .f32) (j : S128.Idx) :
    (maximumf (broadcastInDim S128 ![] bcast_S_S128 (constant S_ .f32 w)) m j : EReal) = max (Ideal.ofBits .f32 w) (m j) := rfl

/-- Each row's largest entry is real, the entries being. -/
theorem topT_real (z : A Ideal) (hz : ∀ i, ∃ a : ℝ, (z i : EReal) = ((a : ℝ) : EReal)) (r : Fin 128) :
    ∃ a : ℝ, (topT z (ix1 r) : EReal) = ((a : ℝ) : EReal) := by
  obtain ⟨a, ha⟩ := maxT_real z hz r
  have e := congrFun (topT_eq z) (ix1 r)
  have e2 := max_at 0xFF800000#32 (maxT z) (ix1 r)
  rw [low, ha] at e2
  exact ⟨a, e.trans (e2.trans (max_bot_left _))⟩

/-- An entry of the exponential of a difference. -/
theorem exp_at (z q : A Ideal) (i : S128x100000.Idx) : (Host.exp (subf z q) i : EReal) = Ideal.exp (z i - q i) := rfl

/-- The exponentials of the scores less the row maximum. -/
theorem expT_eq (z : A Ideal) : expT z = Host.exp (subf z (rows (topT z))) := by
  delta expT; with_reducible rfl

/-- An entry of them. -/
theorem expT_at (z : A Ideal) (r : Fin 128) (v : Fin 100000) :
    (expT z (ix2 r v) : EReal) = Ideal.exp (z (ix2 r v) - topT z (ix1 r)) := by
  have e := congrFun (expT_eq z) (ix2 r v)
  have e2 := exp_at z (rows (topT z)) (ix2 r v)
  rw [rows_at] at e2
  exact e.trans e2

/-- The exponentials are positive reals. -/
theorem expT_real (z : A Ideal) (hz : ∀ i, ∃ a : ℝ, (z i : EReal) = ((a : ℝ) : EReal)) (i : S128x100000.Idx) :
    ∃ a : ℝ, 0 < a ∧ (expT z i : EReal) = ((a : ℝ) : EReal) := by
  obtain ⟨t, ht⟩ := topT_real z hz (i 0)
  obtain ⟨a, ha⟩ := hz i
  refine ⟨Real.exp (a - t), Real.exp_pos _, ?_⟩
  have e := expT_at z (i 0) (i 1)
  have h2 : (ix2 (i 0) (i 1) : S128x100000.Idx) = i := (eq_ix2 i).symm
  rw [h2] at e
  rw [e, ha, ht]
  rfl

/-- A row's softmax keeps the order of its scores, and is real and above zero. -/
theorem softT_row (z : A Ideal) (hz : ∀ i, ∃ a : ℝ, (z i : EReal) = ((a : ℝ) : EReal)) (r : Fin 128) :
    (∀ v, ∃ a : ℝ, (softT z (ix2 r v) : EReal) = ((a : ℝ) : EReal))
      ∧ ∀ v w, ((z (ix2 r v) : EReal) < z (ix2 r w)) ↔ ((softT z (ix2 r v) : EReal) < softT z (ix2 r w)) := by
  obtain ⟨t, ht⟩ := topT_real z hz r
  obtain ⟨s, hs0, hs⟩ := sumT_real (expT z) (expT_real z hz) r
  have e : ∀ v, ∀ a : ℝ, (z (ix2 r v) : EReal) = ((a : ℝ) : EReal) →
      (softT z (ix2 r v) : EReal) = ((Real.exp (a - t) * s⁻¹ : ℝ) : EReal) := by
    intro v a ha
    have e1 := congrFun (softT_eq z) (ix2 r v)
    have e2 := ValueIdx.hostDivf_apply (expT z) (rows (sumT (expT z))) (ix2 r v)
    rw [rows_at, hs, expT_at, ha, ht, ← EReal.coe_sub, Ideal.exp_coe] at e2
    refine e1.trans (e2.trans ?_)
    unfold Ideal.div
    rw [if_neg (by exact_mod_cast hs0.ne'), ← EReal.coe_inv, ← EReal.coe_mul]
  refine ⟨fun v => ?_, fun v w => ?_⟩
  · obtain ⟨a, ha⟩ := hz (ix2 r v)
    exact ⟨_, e v a ha⟩
  · obtain ⟨a, ha⟩ := hz (ix2 r v)
    obtain ⟨b, hb⟩ := hz (ix2 r w)
    rw [e v a ha, e w b hb, ha, hb, EReal.coe_lt_coe_iff, EReal.coe_lt_coe_iff,
      mul_lt_mul_iff_left₀ (inv_pos.mpr hs0), Real.exp_lt_exp]
    exact (sub_lt_sub_iff_right t).symm

/-- Every score is real. -/
theorem score_all (x : A Ideal) (hx : ∀ i, ∃ a : ℝ, (x i : EReal) = ((a : ℝ) : EReal)) (i : S128x100000.Idx) :
    ∃ a : ℝ, ((scoreT x noiseT : A Ideal) i : EReal) = ((a : ℝ) : EReal) := by
  obtain ⟨a, ha⟩ := sc_real x (i 0) (i 1) (hx _)
  have e := scoreT_sc x (i 0) (i 1)
  have h2 : (ix2 (i 0) (i 1) : S128x100000.Idx) = i := (eq_ix2 i).symm
  rw [h2] at e
  exact ⟨a, e.trans ha⟩

/-- The winner of a row of the soft sample is the first column of the greatest score, the logits being real. -/
theorem sample_first (x : A Ideal) (hx : ∀ i, ∃ a : ℝ, (x i : EReal) = ((a : ℝ) : EReal)) (r : Fin 128) :
    ∃ v : Fin 100000, argT (sampleT x) (ix1 r) = BitVec.ofNat 32 v.val ∧ First (sc x r) v := by
  have hz : ∀ i, ∃ a : ℝ, ((scoreT x noiseT : A Ideal) i : EReal) = ((a : ℝ) : EReal) := score_all x hx
  obtain ⟨hr, hlt⟩ := softT_row (scoreT x noiseT) hz r
  obtain ⟨v, hv, hf⟩ := argT_first (sampleT x) r fun v => by
    obtain ⟨a, ha⟩ := hr v
    show (⊥ : EReal) < softT (scoreT x noiseT) (ix2 r v)
    rw [ha]; exact EReal.bot_lt_coe a
  refine ⟨v, hv, First.mono (fun a b => ?_) hf⟩
  rw [← scoreT_sc, ← scoreT_sc]
  exact (hlt a b).symm

/-- The result at an index is the one-hot row's entry: the soft sample, being real, cancels. -/
theorem resultT_at (x : A Ideal) (hx : ∀ i, ∃ a : ℝ, (x i : EReal) = ((a : ℝ) : EReal)) (i : S128x100000.Idx) :
    (resultT (sampleT x) : A Ideal) i = hotT (argT (sampleT x)) i := by
  have hz : ∀ i, ∃ a : ℝ, ((scoreT x noiseT : A Ideal) i : EReal) = ((a : ℝ) : EReal) := score_all x hx
  obtain ⟨a, ha⟩ := (softT_row (scoreT x noiseT) hz (i 0)).1 (i 1)
  have h2 : (ix2 (i 0) (i 1) : S128x100000.Idx) = i := (eq_ix2 i).symm
  rw [h2] at ha
  have ha' : (sampleT x i : EReal) = ((a : ℝ) : EReal) := ha
  generalize sampleT x = q at ha' ⊢
  have e : ∀ (y q : A Ideal), (addf (subf y q) q i : EReal) = y i - q i + q i := fun _ _ => rfl
  refine (e (hotT (argT q)) q).trans ?_
  rw [ha', EReal.sub_add_cancel]

end Cert.Proof.RefValue
-- ==== Proof.ArgmaxRegion.lean ====
/-
  The first call as a region of the program: its proof data over the 49 blocks of columns, the running maximum and
  winner as a recursion over the points, and the body's obligation. The last block overhangs the array; what its fetch
  leaves past the array's end does not matter, because the body masks those columns.
-/
module

public import proofs.«01_k».proof.Proof.ArgmaxRun
public import proofs.«01_k».proof.Proof.Gen.KernelIdeal.Points
public import proofs.«01_k».proof.Proof.Gen.KernelIdeal.Regions
public import Idealize.ShloMosaic.Lib.Affine
public import Idealize.ShloMosaic.Lib.Pointwise
public import Idealize.ShloMosaic.Lib.Pipeline.ValueKit

@[expose] public section

set_option maxRecDepth 16384

noncomputable section

namespace Cert.Proof.Argmax

open Cert.KernelIdeal Cert.KernelIdeal.Gen
open Cert.Proof.Scatter (UU pt Bf 𝒱₀)
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UU F) ℕ

/-- The first call has 49 points. -/
theorem N0 : cfg0.N = 49 := rfl

/-- The points at which each branch runs. -/
theorem cond1_iff : ∀ t : Fin cfg0.N, k0_cond1 (grid0.coords t) = 1#1 ↔ t.val = 0 := by
  show ∀ t : Fin 49, _
  decide +kernel

/-- The second branch runs at every point but the first. -/
theorem cond2_iff : ∀ t : Fin cfg0.N, k0_cond2 (grid0.coords t) = 1#1 ↔ t.val ≠ 0 := by
  show ∀ t : Fin 49, _
  decide +kernel

/-- The winners' window is in use at every point. -/
theorem live2 : ∀ t : Fin cfg0.N, cfg0.idle 2 (cfg0.grid.coords t) = false := by
  show ∀ t : Fin 49, _
  decide +kernel

/-- A point's coordinate is its number. -/
theorem coords_val : ∀ t : Fin cfg0.N, (grid0.coords t 0).val = t.val := by
  show ∀ t : Fin 49, _
  decide +kernel
/-- What a fetch fills: all rows, and the columns inside the array. -/
theorem xsize_row : ∀ t : Fin cfg0.N, (cfg0.win 0).xsize (cfg0.grid.coords t) 0 = 128 := by
  show ∀ t : Fin 49, _
  decide +kernel

/-- A fetch moves the block's columns that lie inside the array. -/
theorem xsize_col : ∀ t : Fin cfg0.N, (cfg0.win 0).xsize (cfg0.grid.coords t) 1 = min 2048 (100000 - 2048 * t.val) := by
  show ∀ t : Fin 49, _
  decide +kernel

/-- The column a lane stands for. -/
theorem cols_at (t : Fin cfg0.N) (j : S128x2048.Idx) : cols (grid0.coords t) j = BitVec.ofNat 32 (2048 * t.val + (j 1).val) := by
  have ht : t.val < 49 := t.isLt
  have hj : (j 1).val < 2048 := (j 1).isLt
  unfold cols k0_pay1
  pointwise
  rw [coords_val]
  apply BitVec.eq_of_toNat_eq
  simp only [IntOp.addi, Scalar.muli, IntOp.muli, BitVec.toNat_add, BitVec.toNat_mul, BitVec.toNat_ofNat]
  omega

/-- A lane is unmasked where its column lies inside the array. -/
theorem cols_lt (t : Fin cfg0.N) (j : S128x2048.Idx) : IntOp.cmpi .slt (cols (grid0.coords t) j) 100000#32 = 1#1 ↔ 2048 * t.val + (j 1).val < 100000 := by
  have ht : t.val < 49 := t.isLt
  have hj : (j 1).val < 2048 := (j 1).isLt
  rw [IntOp.cmpi_slt, cols_at, BitVec.toInt_eq_toNat_of_lt (by rw [BitVec.toNat_ofNat]; omega), BitVec.toNat_ofNat]
  show ((_ : ℕ) : ℤ) < 100000 ↔ _
  omega

/-- Past the array's end the masked block ignores what it read. -/
theorem masked (t : Fin cfg0.N) (u : FVec F S128x2048 .f32) (x x' : Vec F S128x2048 .f32)
    (h : ∀ j : S128x2048.Idx, 2048 * t.val + (j 1).val < 100000 → x j = x' j) :
    k0_pay40 (cols (grid0.coords t)) u x = k0_pay40 (cols (grid0.coords t)) u x' := by
  funext j
  unfold k0_pay40
  show Scalar.select (IntOp.cmpi .slt (cols (grid0.coords t) j) 100000#32) (FloatOps.divf (FloatOps.addf (x j) _) _) _
    = Scalar.select (IntOp.cmpi .slt (cols (grid0.coords t) j) 100000#32) (FloatOps.divf (FloatOps.addf (x' j) _) _) _
  unfold Scalar.select
  by_cases hc : IntOp.cmpi .slt (cols (grid0.coords t) j) 100000#32 = 1#1
  · rw [h j ((cols_lt t j).mp hc)]
  · rw [if_neg (show ¬ _ = (1 : BitVec 1) from hc), if_neg (show ¬ _ = (1 : BitVec 1) from hc)]

/-- The block's column of the maximum depends only on the columns inside the array. -/
theorem masked43 (t : Fin cfg0.N) (u : FVec F S128x2048 .f32) (x x' : Vec F S128x2048 .f32)
    (h : ∀ j : S128x2048.Idx, 2048 * t.val + (j 1).val < 100000 → x j = x' j) :
    k0_pay43 (cols (grid0.coords t)) u x = k0_pay43 (cols (grid0.coords t)) u x' := by
  unfold k0_pay43 k0_pay42; rw [masked t u x x' h]

/-- The block's maximum depends only on the columns inside the array. -/
theorem masked44 (t : Fin cfg0.N) (u : FVec F S128x2048 .f32) (x x' : Vec F S128x2048 .f32)
    (h : ∀ j : S128x2048.Idx, 2048 * t.val + (j 1).val < 100000 → x j = x' j) :
    k0_pay44 (cols (grid0.coords t)) u x = k0_pay44 (cols (grid0.coords t)) u x' := by
  unfold k0_pay44 k0_pay42; rw [masked t u x x' h]

/-- The updated maximum depends only on the columns inside the array. -/
theorem masked46 (t : Fin cfg0.N) (u : FVec F S128x2048 .f32) (x x' : Vec F S128x2048 .f32) (m m' : Vec F S128x1 .f32)
    (h : ∀ j : S128x2048.Idx, 2048 * t.val + (j 1).val < 100000 → x j = x' j) :
    k0_pay46 (cols (grid0.coords t)) u x m m' = k0_pay46 (cols (grid0.coords t)) u x' m m' := by
  unfold k0_pay46 k0_pay45 k0_pay42; rw [masked t u x x' h]

/-- The updated winner depends only on the columns inside the array. -/
theorem masked47 (t : Fin cfg0.N) (u : FVec F S128x2048 .f32) (x x' : Vec F S128x2048 .f32) (m : Vec F S128x1 .f32) (n : Vec F S128x1 .i32)
    (h : ∀ j : S128x2048.Idx, 2048 * t.val + (j 1).val < 100000 → x j = x' j) :
    k0_pay47 (cols (grid0.coords t)) u x m n = k0_pay47 (cols (grid0.coords t)) u x' m n := by
  unfold k0_pay47 k0_pay45 k0_pay43 k0_pay42; rw [masked t u x x' h]

section Data

variable (W : (c : Dev nD) → Valuation τ sig (Elt F))

/-- The array of a window at entry. -/
abbrev arr (c : Dev nD) (w : Fin 3) : Buf (Elt F) ((cfg0.win w).arr.view.loc (c.tc : Thread nD τ)) := W c (Proc.devRef .tc (Pipeline.arrRef spec0 w))

/-- The block of logits at a point, zero past the array's end. -/
def xb (c : Dev nD) (t : Fin cfg0.N) : Vec F S128x2048 .f32 :=
  (cfg0.win 0).fill (cfg0.grid.coords t) (k0_pay41 (F := F)) (((cfg0.win 0).blk t).view.read (Elt F) (arr W c 0))

/-- The point of a number. -/
def ptN (n : ℕ) : Fin cfg0.N := Fin.ofNat 49 n

/-- The running maximum and winner after point `n`. -/
def best (c : Dev nD) : ℕ → Vec F S128x1 .f32 × Vec F S128x1 .i32
  | 0 => (k0_pay44 (cols (grid0.coords (ptN 0))) (unif F (grid0.coords (ptN 0))) (xb W c (ptN 0)),
      k0_pay43 (cols (grid0.coords (ptN 0))) (unif F (grid0.coords (ptN 0))) (xb W c (ptN 0)))
  | n + 1 => (k0_pay46 (cols (grid0.coords (ptN (n + 1)))) (unif F (grid0.coords (ptN (n + 1)))) (xb W c (ptN (n + 1))) (best c n).1 (best c n).1,
      k0_pay47 (cols (grid0.coords (ptN (n + 1)))) (unif F (grid0.coords (ptN (n + 1)))) (xb W c (ptN (n + 1))) (best c n).1 (best c n).2)

/-- The scoped buffers beside the running maximum. -/
abbrev restA (c : Dev nD) : sProp 𝕄 :=
  iprop((∃ f : Buf (Elt F) ((c : Thread nD τ).loc cc1_stg1_0), ((c : Thread nD τ).loc cc1_stg1_0) ↦{fullShare} f)
    ∗ (∃ f : Buf (Elt F) ((c : Thread nD τ).loc cc1_scratch0), ((c : Thread nD τ).loc cc1_scratch0) ↦{fullShare} f)
    ∗ (∃ f : Buf (Elt F) ((c : Thread nD τ).loc cc1_stg0_0), ((c : Thread nD τ).loc cc1_stg0_0) ↦{fullShare} f))

/-- The scratch buffer of the running maximum. -/
abbrev MS : Memref sig .tc .vmem S128x1 .f32 := Memref.whole cc0_scratch0

/-- The running maximum before point `n`. -/
def scr (c : Dev nD) : ℕ → sProp 𝕄
  | 0 => iprop(∃ f, owns (c : Thread nD τ) MS fullShare f)
  | n + 1 => owns (c : Thread nD τ) MS fullShare (best W c n).1

/-- The call's proof data. -/
def dat0 (c : Dev nD) : Dat τ (Elt F) Unit ℕ (UU F) ℕ cfg0 c where
  A w := arr W c w
  after w t := match w with
    | ⟨0, _⟩ => xb W c t
    | ⟨1, _⟩ => k0_pay41 (F := F)
    | ⟨2, _⟩ => (best W c t.val).2
  Φ p := iprop(scr W c p.val ∗ restA c)
  q _ := fullShare
  owed _ := 0

/-- The point's logits as staged, whatever lies past the array's end. -/
theorem before_0 (c : Dev nD) (t : Fin cfg0.N) (d : (cfg0.win 0).block.Idx → Elt F (cfg0.win 0).elt) :
    (dat0 W c).before 0 t d = (cfg0.win 0).fill (cfg0.grid.coords t) d (((cfg0.win 0).blk t).view.read (Elt F) (arr W c 0)) := by
  unfold Dat.before; rw [if_pos (fetch0_0 t)]; rfl

/-- A later point finds the winner the point before left. -/
theorem before_2 (c : Dev nD) (t : Fin cfg0.N) (ht : t.val ≠ 0) (d : (cfg0.win 2).block.Idx → Elt F (cfg0.win 2).elt) :
    (dat0 W c).before 2 t d = (best W c (t.val - 1)).2 := by
  have h49 : t.val < 49 := t.isLt
  rw [Dat.before_of_pos _ _ _ ht (by rfl)]
  rw [if_neg (by rw [flush0_2]; show ¬ (t.val - 1) % 49 = 48; omega)]
  unfold Dat.left
  rw [live2]
  rfl

/-- A fetch over any earlier contents agrees with the block read, on the columns inside the array. -/
theorem fill_agree (c : Dev nD) (t : Fin cfg0.N) (d : (cfg0.win 0).block.Idx → Elt F (cfg0.win 0).elt) (j : S128x2048.Idx) (hj : 2048 * t.val + (j 1).val < 100000) :
    ((cfg0.win 0).fill (cfg0.grid.coords t) d (((cfg0.win 0).blk t).view.read (Elt F) (arr W c 0)) : S128x2048.Idx → F .f32) j = xb W c t j := by
  have hm : (cfg0.win 0).moved (cfg0.grid.coords t) j = true := by
    rw [Window.moved_iff]
    intro a
    fin_cases a
    · show (j 0).val < (cfg0.win 0).xsize (cfg0.grid.coords t) 0
      rw [xsize_row]; exact (j 0).isLt
    · show (j 1).val < (cfg0.win 0).xsize (cfg0.grid.coords t) 1
      rw [xsize_col]; have : (j 1).val < 2048 := (j 1).isLt; omega
  unfold xb Window.fill
  rw [dif_pos hm, dif_pos hm]

/-- The point of a point's number is the point. -/
theorem ptN_val (t : Fin cfg0.N) : ptN t.val = t := Fin.ext (Nat.mod_eq_of_lt t.isLt)

/-- After the first point: the maximum and winner of its block. -/
theorem best_first (c : Dev nD) (t : Fin cfg0.N) (ht : t.val = 0) :
    best W c t.val = (k0_pay44 (cols (grid0.coords t)) (unif F (grid0.coords t)) (xb W c t), k0_pay43 (cols (grid0.coords t)) (unif F (grid0.coords t)) (xb W c t)) := by
  obtain rfl : t = ptN 0 := Fin.ext ht
  rfl

/-- After a later point: the maximum and winner updated by its block. -/
theorem best_later (c : Dev nD) (t : Fin cfg0.N) (ht : t.val ≠ 0) :
    best W c t.val = (k0_pay46 (cols (grid0.coords t)) (unif F (grid0.coords t)) (xb W c t) (best W c (t.val - 1)).1 (best W c (t.val - 1)).1,
      k0_pay47 (cols (grid0.coords t)) (unif F (grid0.coords t)) (xb W c t) (best W c (t.val - 1)).1 (best W c (t.val - 1)).2) := by
  obtain ⟨n, hn⟩ := Nat.exists_eq_succ_of_ne_zero ht
  have hp := ptN_val t
  rw [hn] at hp ⊢
  rw [← hp]
  rfl

/-- What the body is given at a point, and what it leaves. -/
def bodyPre (c : Dev nD) (t : Fin cfg0.N) : sProp 𝕄 :=
  iprop((scr W c t.val ∗ restA c) ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d)))

/-- What a point leaves: the running maximum, the staged blocks, and the winners so far. -/
def bodyPost (c : Dev nD) (t : Fin cfg0.N) : sProp 𝕄 :=
  iprop((scr W c (t.val + 1) ∗ restA c) ∗ (dat0 W c).owesAt () t.castSucc
    ∗ (∃ d, owns (c : Thread nD τ) (st0_0 t) fullShare ((cfg0.win 0).fill (cfg0.grid.coords t) d ((cfg0.win 0).cut (cfg0.grid.coords t) (xb W c t))))
    ∗ (∃ d, owns (c : Thread nD τ) (st0_1 t) fullShare ((cfg0.win 1).fill (cfg0.grid.coords t) d ((cfg0.win 1).cut (cfg0.grid.coords t) (k0_pay41 (F := F)))))
    ∗ owns (c : Thread nD τ) (st0_2 t) fullShare (best W c t.val).2)

/-- The first point starts the maximum and the winner. -/
theorem sound_first (c : Dev nD) (t : Fin cfg0.N) (ht : t.val = 0) :
    bodyPre W c t ⊢ wp frame (wpE (defs₀ (F := F)) 𝒱₀ c none) Set.univ (bodyAt0 (F := F) t) (fun _ => bodyPost W c t) := by
  unfold bodyPre bodyPost
  rw [ht]
  show iprop(((∃ f, owns (c : Thread nD τ) MS fullShare f) ∗ restA c) ∗ _) ⊢ _
  iintro ⟨⟨⟨%m, HS⟩, HR⟩, Ho, ⟨%d0, H0⟩, ⟨%d1, H1⟩, ⟨%d2, H2⟩⟩
  rw [before_0]
  iapply (run_first c (grid0.coords t) _ _ _ _ _ _ _ _ ((cond1_iff t).mpr ht) (fun h => (cond2_iff t).mp h ht) _ _ _ _ _)
  isplitl [H0]; · iexact H0
  isplitl [H1]; · iexact H1
  isplitl [H2]; · iexact H2
  isplitl [HS]; · iexact HS
  iintro ⟨H0, H1, H2, HS⟩
  rw [masked43 t _ _ (xb W c t) (fun j hj => fill_agree W c t d0 j hj), masked44 t _ _ (xb W c t) (fun j hj => fill_agree W c t d0 j hj)]
  have hb := best_first W c t ht
  rw [ht] at hb
  isplitl [HS HR]
  · isplitl [HS]
    · show _ ⊢ owns (c : Thread nD τ) MS fullShare (best W c 0).1
      rw [hb]
    iexact HR
  isplitl [Ho]; · iexact Ho
  isplitl [H0]; · iexists d0; unfold xb; rw [Window.cut_fill]; iexact H0
  isplitl [H1]; · iexists (k0_pay41 (F := F)); rw [Window.fill_cut]; iexact H1
  rw [hb]; iexact H2

/-- A later point takes its block's maximum where that is larger. -/
theorem sound_later (c : Dev nD) (t : Fin cfg0.N) (ht : t.val ≠ 0) :
    bodyPre W c t ⊢ wp frame (wpE (defs₀ (F := F)) 𝒱₀ c none) Set.univ (bodyAt0 (F := F) t) (fun _ => bodyPost W c t) := by
  unfold bodyPre bodyPost
  rw [show scr W c t.val = owns (c : Thread nD τ) MS fullShare (best W c (t.val - 1)).1 by
    obtain ⟨n, hn⟩ := Nat.exists_eq_succ_of_ne_zero ht
    rw [hn]; rfl]
  iintro ⟨⟨HS, HR⟩, Ho, ⟨%d0, H0⟩, ⟨%d1, H1⟩, ⟨%d2, H2⟩⟩
  rw [before_0, before_2 W c t ht]
  iapply (run_later c (grid0.coords t) _ _ _ _ _ _ _ _ (fun h => ht ((cond1_iff t).mp h)) ((cond2_iff t).mpr ht) _ _ _ _ _)
  isplitl [H0]; · iexact H0
  isplitl [H1]; · iexact H1
  isplitl [H2]; · iexact H2
  isplitl [HS]; · iexact HS
  iintro ⟨H0, H1, H2, HS⟩
  rw [masked47 t _ _ (xb W c t) _ _ (fun j hj => fill_agree W c t d0 j hj), masked46 t _ _ (xb W c t) _ _ (fun j hj => fill_agree W c t d0 j hj)]
  have hb := best_later W c t ht
  isplitl [HS HR]
  · isplitl [HS]
    · show _ ⊢ owns (c : Thread nD τ) MS fullShare (best W c t.val).1
      rw [hb]
    iexact HR
  isplitl [Ho]; · iexact Ho
  isplitl [H0]; · iexists d0; unfold xb; rw [Window.cut_fill]; iexact H0
  isplitl [H1]; · iexists (k0_pay41 (F := F)); rw [Window.fill_cut]; iexact H1
  rw [hb]; iexact H2

/-- The body meets its obligation at every point. -/
theorem body0_obligation (c : Dev nD) : BodyObligationLoose (dat0 W c) (defs₀ (F := F)) 𝒱₀ () Set.univ := fun t => by
  rw [bigSep_W0, bigSep_W0, live2]
  show bodyPre W c t ⊢ wp frame (wpE (defs₀ (F := F)) 𝒱₀ c none) Set.univ (bodyAt0 (F := F) t) (fun _ => bodyPost W c t)
  rcases Decidable.em (t.val = 0) with ht | ht
  · exact sound_first W c t ht
  · exact sound_later W c t ht

/-- The call leaves its input as it found it. -/
theorem fin_in (c : Dev nD) : (dat0 W c).arrAt 0 cfg0.N = arr W c 0 := (dat0 W c).arrAt_in 0 rfl _

/-- The zeroed array at the end. -/
theorem fin_zero (c : Dev nD) : (dat0 W c).arrAt 1 cfg0.N = fun _ => FloatOps.ofBits .f32 0#32 := by
  refine (dat0 W c).arrAt_eq_of_covers 1 _ (by decide +kernel) fun t hf y => ?_
  rfl

/-- At the last point the winners' window is written back whole. -/
theorem whole2 : (cfg0.win 2).WholeAt (ptN 48) := by decide +kernel

/-- The winners at the end. -/
theorem fin_win (c : Dev nD) : (dat0 W c).arrAt 2 cfg0.N = (show S128x1.Idx → BitVec 32 from (best W c 48).2) := by
  refine (dat0 W c).arrAt_eq_of_after_last 2 (ptN 48) whole2 _ fun j => ?_
  blk_simp
  rfl

end Data

end Cert.Proof.Argmax

end
-- ==== Proof.ScatterVals.lean ====
/-
  The words and values of the second call: for row words below 99968 the tile offsets are `8 * (t / 8)` and the word
  rounded down to a multiple of 128, every tile lies inside the result, and what a copy brings agrees with the one-hot
  array on its tile.
-/
module

public import proofs.«01_k».proof.Proof.Scatter
public import Idealize.ShloMosaic.Lib.Affine
public import Idealize.ShloMosaic.Lib.Pointwise

@[expose] public section

set_option maxRecDepth 16384

noncomputable section

namespace Cert.Proof.Scatter

open Cert.KernelIdeal Cert.KernelIdeal.Gen
open Idealize.ShloMosaic
open Idealize.ShloMosaic.TcCoe Idealize.ShloMosaic.Tactic
open Idealize.SL.BI.BIBase

variable {F : FTy → Type} [FloatOps F]

/-- A word rounded down to a multiple of 128, as both the scalar and the vector unit compute it. -/
def floorWord (u : ArithUnit) (w : BitVec 32) : BitVec 32 :=
  IntOp.muli (Scalar.select (IntOp.andi
      (IntOp.cmpi .ne (IntOp.subi ((IntOp.cmpi .sgt w 0#32).setWidth 32) ((IntOp.cmpi .slt w 0#32).setWidth 32))
        (Scalar.subi (Scalar.extui (Scalar.cmpi .sgt 128#32 0#32)) (Scalar.extui (Scalar.cmpi .slt 128#32 0#32))))
      (IntOp.cmpi .ne (IntOp.remsi u w 128#32) 0#32))
    (IntOp.subi (IntOp.divsi u w 128#32) 1#32) (IntOp.divsi u w 128#32)) 128#32

/-- The signed quotient of a nonnegative word by 128 is that of its number. -/
theorem toNat_div128 (u : ArithUnit) {w : BitVec 32} (hw : 2 * w.toNat < 2 ^ 32) : (IntOp.divsi u w 128#32).toNat = w.toNat / 128 := by
  have hm : w.msb = false := by rw [BitVec.msb_eq_false_iff_two_mul_lt]; exact hw
  unfold IntOp.divsi
  rw [if_neg (IntOp.not_corner_of_pos (by decide)), BitVec.sdiv_eq, hm, show (128#32 : BitVec 32).msb = false from by decide]
  show (w / 128#32).toNat = _
  rw [BitVec.toNat_udiv]; rfl

/-- On a small word the rounding is the plain one. -/
theorem toNat_floorWord (u : ArithUnit) {w : BitVec 32} (hw : w.toNat < 99968) : (floorWord u w).toNat = w.toNat / 128 * 128 := by
  have h2 : 2 * w.toNat < 2 ^ 32 := by omega
  have hi : w.toInt = w.toNat := BitVec.toInt_eq_toNat_of_lt h2
  have hsel : IntOp.andi
      (IntOp.cmpi .ne (IntOp.subi ((IntOp.cmpi .sgt w 0#32).setWidth 32) ((IntOp.cmpi .slt w 0#32).setWidth 32))
        (Scalar.subi (Scalar.extui (Scalar.cmpi .sgt 128#32 0#32)) (Scalar.extui (Scalar.cmpi .slt 128#32 0#32))))
      (IntOp.cmpi .ne (IntOp.remsi u w 128#32) 0#32) ≠ 1#1 := by
    rw [Ne, IntOp.andi_eq_one, IntOp.cmpi_ne, IntOp.cmpi_ne]
    rintro ⟨h1, h3⟩
    have hslt : IntOp.cmpi .slt w 0#32 = 0#1 := by
      have : IntOp.cmpi .slt w 0#32 ≠ 1#1 := by rw [Ne, IntOp.cmpi_slt, hi]; show ¬ ((w.toNat : ℤ) < 0); omega
      revert this; generalize IntOp.cmpi .slt w 0#32 = b; revert b; decide
    rcases Nat.eq_zero_or_pos w.toNat with h0 | h0
    · exact h3 ((IntOp.remsi_eq_zero_iff u h2 128 (by omega) (by omega)).mpr (by rw [h0]; exact dvd_zero _))
    · have hsgt : IntOp.cmpi .sgt w 0#32 = 1#1 := by rw [IntOp.cmpi_sgt, hi]; show (0 : ℤ) < w.toNat; omega
      apply h1; rw [hslt, hsgt]; decide
  unfold floorWord IntOp.muli Scalar.select
  rw [if_neg (show ¬ _ = (1 : BitVec 1) from hsel), BitVec.toNat_mul, toNat_div128 u h2]
  show w.toNat / 128 * 128 % 4294967296 = _
  omega

/-- The first coordinate of a trip's offsets. -/
theorem off2_zero : ∀ t : Fin k1_t1_loop.trips, k1_off2 t 0#32 0 = t.val / 8 * 8 := by decide +kernel

/-- The awaited tile starts at the row of the trip's group. -/
theorem off5_zero : ∀ t : Fin k1_t2_loop.trips, k1_off5 t 0#32 0 = t.val / 8 * 8 := by decide +kernel

/-- A copied tile starts at the row of the trip's group. -/
theorem off2_row (t : Fin k1_t1_loop.trips) (w : BitVec 32) : k1_off2 t w 0 = t.val / 8 * 8 := by
  rw [← off2_zero t]; unfold k1_off2; simp only [Matrix.cons_val_zero]

/-- It starts at the word's column rounded down to a tile. -/
theorem off2_col (t : Fin k1_t1_loop.trips) (w : BitVec 32) : k1_off2 t w 1 = (floorWord .scalar w).toNat := by
  unfold k1_off2; simp only [Matrix.cons_val_one, Matrix.cons_val_fin_one]; rfl

/-- An awaited tile starts at the row of the trip's group. -/
theorem off5_row (t : Fin k1_t2_loop.trips) (w : BitVec 32) : k1_off5 t w 0 = t.val / 8 * 8 := by
  rw [← off5_zero t]; unfold k1_off5; simp only [Matrix.cons_val_zero]

/-- It starts at the word's column rounded down to a tile. -/
theorem off5_col (t : Fin k1_t2_loop.trips) (w : BitVec 32) : k1_off5 t w 1 = (floorWord .scalar w).toNat := by
  unfold k1_off5; simp only [Matrix.cons_val_one, Matrix.cons_val_fin_one]; rfl

/-- Row words below 99968 meet what the first loop assumes. -/
theorem chk1_of (t : Fin k1_t1_loop.trips) {w : BitVec 32} (hw : w.toNat < 99968) : k1_chk1 t w := by
  have ht : t.val < 128 := t.isLt
  refine ⟨?_, fun a => ?_⟩
  · rw [show k1_mult1 w = floorWord .scalar w from rfl, toNat_floorWord _ hw]; exact Dvd.intro_left _ rfl
  · fin_cases a
    · show k1_off2 t w 0 + 8 ≤ 128
      rw [off2_row]; omega
    · show k1_off2 t w 1 + 128 ≤ 100000
      rw [off2_col, toNat_floorWord _ hw]; omega

/-- Row words below 99968 meet what the second loop assumes. -/
theorem chk2_of (t : Fin k1_t2_loop.trips) {w : BitVec 32} (hw : w.toNat < 99968) : k1_chk2 t w := by
  have ht : t.val < 128 := t.isLt
  refine ⟨?_, fun a => ?_⟩
  · rw [show k1_mult3 w = floorWord .scalar w from rfl, toNat_floorWord _ hw]; exact Dvd.intro_left _ rfl
  fin_cases a
  · show k1_off5 t w 0 + 8 ≤ 128
    rw [off5_row]; omega
  · show k1_off5 t w 1 + 128 ≤ 100000
    rw [off5_col, toNat_floorWord _ hw]; omega

/-- The one-hot array of the row words `g`. -/
def hotOf (c : Dev nD) (g : Fin 128 → BitVec 32) : Bf F c MO :=
  fun (i : S128x100000.Idx) => (FloatOps.sitofp .f32 ((IntOp.cmpi .eq (BitVec.ofNat 32 (i 1).val) (g (i 0))).setWidth 32) : F .f32)

/-- One patch value: the base column of its own row plus the lane, compared with the word of the tile's row. -/
theorem pay1_at (v0 : Vec F S16x8 .i32) (i : S16x8x8x128.Idx) :
    k1_pay1 (F := F) v0 i = FloatOps.sitofp .f32 ((IntOp.cmpi .eq
      (IntOp.addi (floorWord .vector (v0 (ix2 (i 0) (i 1)))) (BitVec.ofNat 32 (i 3).val))
      (v0 (ix2 (i 0) (i 2)))).setWidth 32) := by
  unfold k1_pay1
  pointwise
  rfl

/-- Sixteen groups of eight are the rows. -/
theorem row_lt (a : Fin 16) (b : Fin 8) : 8 * a.val + b.val < 128 := by omega

/-- The patches agree with the one-hot array on every tile, when the vector operand repeats the scalar operand's words. -/
theorem admits (c : Dev nD) (fI : Bf F c M0) (f1 : Bf F c M1) (hw : ∀ t, (word c fI t).toNat < 99968)
    (hf : ∀ (a : Fin 16) (b : Fin 8), (show Vec F S16x8 .i32 from f1) (ix2 a b) = word c fI ⟨8 * a.val + b.val, row_lt a b⟩)
    (t : Fin k1_t1_loop.trips) :
    (dstM t _ (chk1_of t (hw ⟨t.val, t.isLt⟩))).view.Admitted (Elt F) (tgt c (hotOf c (word c fI))) ((srcM t).view.read (Elt F) (patch c f1)) Finset.univ := by
  have ht : t.val < 128 := t.isLt
  unfold tgt
  rw [View.admitted_some_iff]
  intro x _
  have hsrc : (srcM t).view.read (Elt F) (patch c f1) x = k1_pay1 (F := F) f1
      (ix4 (⟨t.val / 8, by omega⟩ : Fin 16) (⟨t.val % 8, by omega⟩ : Fin 8) (x 0) (x 1)) := by
    rw [View.read_apply]
    show k1_pay1 (F := F) f1 _ = _
    congr 1
    have hre : ∀ h, Shape.reshapeEquiv (s := S1x1x8x128) (s' := S8x128) h x = (ix4 (0 : Fin 1) (0 : Fin 1) (x 0) (x 1) : S1x1x8x128.Idx) := fun h =>
      Shape.reshapeEquiv_eq_of_rowMajor h (by
        rw [Shape.rowMajor_val_four, Shape.rowMajor_val_two]
        show ((0 * 1 + 0) * 8 + (x 0).val) * 128 + (x 1).val = (x 0).val * 128 + (x 1).val
        omega)
    have key : ∀ a : Fin 4, ((srcM t).view.emb x a).val
        = k1_off3 t a + 1 * ((ix4 (0 : Fin 1) (0 : Fin 1) (x 0) (x 1) : S1x1x8x128.Idx) a).val := fun a => by
      rw [← hre squeezes_S1x1x8x128_S8x128.numel_eq]; rfl
    funext a
    apply Fin.ext
    refine (key a).trans ?_
    rw [off3_eq]
    fin_cases a
    · rfl
    · rfl
    · show 0 + 1 * (x 0).val = (x 0).val
      omega
    · show 0 + 1 * (x 1).val = (x 1).val
      omega
  have hdst : (dstM t _ (chk1_of t (hw ⟨t.val, t.isLt⟩))).view.read (Elt F) (hotOf c (word c fI)) x
      = (hotOf c (word c fI) : S128x100000.Idx → F .f32) (ix2 (⟨8 * (t.val / 8) + (x 0).val, by have := (x 0).isLt; change (x 0).val < 8 at this; omega⟩ : Fin 128)
          (⟨(floorWord .scalar (word c fI ⟨t.val, t.isLt⟩)).toNat + (x 1).val, by
            have := (x 1).isLt; change (x 1).val < 128 at this; rw [toNat_floorWord _ (hw _)]; have := hw ⟨t.val, t.isLt⟩; omega⟩ : Fin 100000)) := by
    rw [View.read_apply]
    show hotOf c (word c fI) _ = _
    congr 1
    funext a
    apply Fin.ext
    fin_cases a
    · show k1_off2 t (word c fI ⟨t.val, t.isLt⟩) 0 + 1 * (x 0).val = 8 * (t.val / 8) + (x 0).val
      rw [off2_row]; omega
    · show k1_off2 t (word c fI ⟨t.val, t.isLt⟩) 1 + 1 * (x 1).val = _
      rw [off2_col, Nat.one_mul]; rfl
  have hx0 : (x 0).val < 8 := (x 0).isLt
  have hx1 : (x 1).val < 128 := (x 1).isLt
  have ha : (⟨8 * (t.val / 8) + t.val % 8, by omega⟩ : Fin 128) = ⟨t.val, ht⟩ := Fin.ext (by show 8 * (t.val / 8) + t.val % 8 = t.val; omega)
  have e1 : (show Vec F S16x8 .i32 from f1) (ix2 (⟨t.val / 8, by omega⟩ : Fin 16) (⟨t.val % 8, by omega⟩ : Fin 8)) = word c fI ⟨t.val, ht⟩ :=
    (hf _ _).trans (congrArg (word c fI) ha)
  have e2 : (show Vec F S16x8 .i32 from f1) (ix2 (⟨t.val / 8, by omega⟩ : Fin 16) (x 0)) = word c fI ⟨8 * (t.val / 8) + (x 0).val, by omega⟩ := hf _ _
  have e3 : IntOp.addi (floorWord .vector (word c fI ⟨t.val, ht⟩)) (BitVec.ofNat 32 (x 1).val)
      = BitVec.ofNat 32 ((floorWord .scalar (word c fI ⟨t.val, ht⟩)).toNat + (x 1).val) := by
    apply BitVec.eq_of_toNat_eq
    have := hw ⟨t.val, ht⟩
    unfold IntOp.addi
    rw [BitVec.toNat_add, toNat_floorWord _ this, toNat_floorWord _ this, BitVec.toNat_ofNat, BitVec.toNat_ofNat]
    omega
  rw [hsrc, hdst, pay1_at]
  show FloatOps.sitofp .f32 ((IntOp.cmpi .eq (IntOp.addi (floorWord .vector ((show Vec F S16x8 .i32 from f1) (ix2 (⟨t.val / 8, by omega⟩ : Fin 16) (⟨t.val % 8, by omega⟩ : Fin 8))))
      (BitVec.ofNat 32 (x 1).val)) ((show Vec F S16x8 .i32 from f1) (ix2 (⟨t.val / 8, by omega⟩ : Fin 16) (x 0)))).setWidth 32) = _
  rw [e1, e2, e3]
  rfl

/-- Over an array of zeros the tiles leave the whole one-hot array: every one lies in a tile. -/
theorem tiles_hot (c : Dev nD) (fI : Bf F c M0) (z : Bf F c MO) (hw : ∀ t, (word c fI t).toNat < 99968)
    (hz : ∀ i : S128x100000.Idx, (z : S128x100000.Idx → F .f32) i = FloatOps.sitofp .f32 (0#32)) :
    (tiles c fI fun t => chk1_of t (hw ⟨t.val, t.isLt⟩)).piecewise (hotOf c (word c fI)) z = hotOf c (word c fI) := by
  funext i
  by_cases hi : i ∈ tiles c fI fun t => chk1_of t (hw ⟨t.val, t.isLt⟩)
  · rw [Finset.piecewise_eq_of_mem _ _ _ hi]
  rw [Finset.piecewise_eq_of_notMem _ _ _ hi]
  refine (hz i).trans ?_
  have hne : ¬ BitVec.ofNat 32 ((show S128x100000.Idx from i) 1).val = word c fI ((show S128x100000.Idx from i) 0) := by
    intro he
    apply hi
    have h0 : ((show S128x100000.Idx from i) 0).val < 128 := ((show S128x100000.Idx from i) 0).isLt
    have h1 : ((show S128x100000.Idx from i) 1).val < 100000 := ((show S128x100000.Idx from i) 1).isLt
    have hwr := hw ((show S128x100000.Idx from i) 0)
    have hv : (word c fI ((show S128x100000.Idx from i) 0)).toNat = ((show S128x100000.Idx from i) 1).val := by
      rw [← he, BitVec.toNat_ofNat]; omega
    unfold tiles
    rw [Finset.mem_biUnion]
    refine ⟨((show S128x100000.Idx from i) 0).val, Finset.mem_range.mpr h0, ?_⟩
    have ho : Fin.ofNat 128 ((show S128x100000.Idx from i) 0).val = (show S128x100000.Idx from i) 0 := Fin.ext (Nat.mod_eq_of_lt h0)
    refine Finset.mem_map.mpr ⟨(ix2 (⟨((show S128x100000.Idx from i) 0).val % 8, by omega⟩ : Fin 8) (⟨((show S128x100000.Idx from i) 1).val % 128, by omega⟩ : Fin 128) : S8x128.Idx), Finset.mem_univ _, ?_⟩
    have hfl := toNat_floorWord .scalar (hw (Fin.ofNat 128 ((show S128x100000.Idx from i) 0).val))
    funext a
    apply Fin.ext
    fin_cases a
    · refine (congrArg (fun n => n + 1 * (((show S128x100000.Idx from i) 0).val % 8))
        (off2_row (show Fin k1_t1_loop.trips from Fin.ofNat 128 ((show S128x100000.Idx from i) 0).val) (word c fI (Fin.ofNat 128 ((show S128x100000.Idx from i) 0).val)))).trans ?_
      show ((show S128x100000.Idx from i) 0).val % 128 / 8 * 8 + 1 * (((show S128x100000.Idx from i) 0).val % 8) = ((show S128x100000.Idx from i) 0).val
      omega
    · refine (congrArg (fun n => n + 1 * (((show S128x100000.Idx from i) 1).val % 128))
        (off2_col (show Fin k1_t1_loop.trips from Fin.ofNat 128 ((show S128x100000.Idx from i) 0).val) (word c fI (Fin.ofNat 128 ((show S128x100000.Idx from i) 0).val)))).trans ?_
      show (floorWord .scalar (word c fI (Fin.ofNat 128 ((show S128x100000.Idx from i) 0).val))).toNat + 1 * (((show S128x100000.Idx from i) 1).val % 128) = ((show S128x100000.Idx from i) 1).val
      rw [hfl, ho, hv]; omega
  have h0 : IntOp.cmpi .eq (BitVec.ofNat 32 ((show S128x100000.Idx from i) 1).val) (word c fI ((show S128x100000.Idx from i) 0)) = 0#1 := by
    have : ¬ IntOp.cmpi .eq (BitVec.ofNat 32 ((show S128x100000.Idx from i) 1).val) (word c fI ((show S128x100000.Idx from i) 0)) = 1#1 := by
      rw [IntOp.cmpi_eq]; exact hne
    revert this; generalize IntOp.cmpi .eq _ _ = b; revert b; decide
  show _ = FloatOps.sitofp .f32 ((IntOp.cmpi .eq (BitVec.ofNat 32 ((show S128x100000.Idx from i) 1).val) (word c fI ((show S128x100000.Idx from i) 0))).setWidth 32)
  rw [h0]; rfl

end Cert.Proof.Scatter

end
-- ==== Proof.ScatterRegion.lean ====
/-
  The second call as a region of the program: its proof data and its segment, entered from any contents of the unscoped
  buffers whose row words lie below 99968 and whose result array is zero, left with the one-hot array as the result.
-/
module

public import proofs.«01_k».proof.Proof.ScatterVals
public import proofs.«01_k».proof.Proof.Gen.KernelIdeal.Regions

@[expose] public section

set_option maxRecDepth 16384

noncomputable section

namespace Cert.Proof.Scatter

open Cert.KernelIdeal Cert.KernelIdeal.Gen
open Cert.Proof.Overlap
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ (UU F) ℕ

/-- The call's own counter, as a family over one index. -/
abbrev osem1 : Fin 1 → SemLoc sig := fun _ => sem

/-- The call's own semaphore is no pipeline's. -/
theorem ownSem1 : Pipeline.OwnSemFacts spec1 osem1 := by decide

section Data

variable (W : (c : Dev nD) → Valuation τ sig (Elt F))

/-- The two operands as staged. -/
abbrev stgI (c : Dev nD) : Bf F c M0 := ((cfg1.win 0).blk t1_0).view.read (Elt F) (W c (Proc.devRef .tc (Pipeline.arrRef spec1 0)))

/-- The words the call gets in vector memory. -/
abbrev stgV (c : Dev nD) : Bf F c M1 := ((cfg1.win 1).blk t1_0).view.read (Elt F) (W c (Proc.devRef .tc (Pipeline.arrRef spec1 1)))

/-- What enters the call beside its staged operands: the write mode's invariant and the result array. -/
abbrev X1 (c : Dev nD) : sProp 𝕄 := iprop((∃ ι, wmInv (embW (F := F)) ι) ∗ pt c MO (W c (Proc.devRef .tc main_v0)))
/-- What leaves it: the same with the one-hot array. -/
abbrev Y1 (c : Dev nD) : sProp 𝕄 := iprop((∃ ι, wmInv (embW (F := F)) ι) ∗ pt c MO (hotOf c (word c (stgI W c))))

/-- The buffers of the call that no window stages. -/
abbrev rest1 (c : Dev nD) : sProp 𝕄 :=
  iprop(Pipeline.scopedRest (Ix := Unit) (Name := ℕ) (U := UU F) (Lvl := ℕ) (Val := Elt F) spec1 c)

/-- The call's proof data. -/
def dat1 (c : Dev nD) : Dat τ (Elt F) Unit ℕ (UU F) ℕ cfg1 c where
  A w := W c (Proc.devRef .tc (Pipeline.arrRef spec1 w))
  after w _ := match w with
    | ⟨0, _⟩ => stgI W c
    | ⟨1, _⟩ => stgV W c
  Φ p := if p.val = 0 then iprop(rest1 c ∗ X1 W c ∗ semVal ((c : Thread nD τ), sem) 0) else iprop(rest1 c ∗ Y1 W c ∗ semVal ((c : Thread nD τ), sem) 0)
  q _ := fullShare
  owed _ := 0

/-- The scalar words are staged before the body. -/
theorem before0 (c : Dev nD) (d : (cfg1.win 0).block.Idx → Elt F (cfg1.win 0).elt) : (dat1 W c).before 0 t1_0 d = stgI W c := by
  unfold Dat.before; rw [if_pos (by decide)]; rfl

/-- So are the words in vector memory. -/
theorem before1 (c : Dev nD) (d : (cfg1.win 1).block.Idx → Elt F (cfg1.win 1).elt) : (dat1 W c).before 1 t1_0 d = stgV W c := by
  unfold Dat.before; rw [if_pos (by decide)]; rfl

variable (hw : ∀ c t, (word c (stgI W c) t).toNat < 99968)
  (hf : ∀ c (a : Fin 16) (b : Fin 8), (show Vec F S16x8 .i32 from stgV W c) (ix2 a b) = word c (stgI W c) ⟨8 * a.val + b.val, row_lt a b⟩)
  (hz : ∀ c (i : S128x100000.Idx), (W c (Proc.devRef .tc main_v0) : S128x100000.Idx → F .f32) i = FloatOps.sitofp .f32 (0#32))

include hw hf hz in
/-- The call's body meets its obligation. -/
theorem body1_obligation (c : Dev nD) : BodyObligation (dat1 W c) (defs₀ (F := F)) 𝒱₀ () Set.univ := fun t => by
  obtain rfl := fin_N1 t
  rw [bigSep_W1, bigSep_W1]
  simp only [owns_whole_eq]
  rw [show (dat1 W c).Φ t1_0.castSucc = iprop(rest1 c ∗ X1 W c ∗ semVal ((c : Thread nD τ), sem) 0) from rfl,
    show (dat1 W c).Φ t1_0.succ = iprop(rest1 c ∗ Y1 W c ∗ semVal ((c : Thread nD τ), sem) 0) from rfl,
    show (dat1 W c).owesAt () t1_0.succ = (dat1 W c).owesAt () t1_0.castSucc from rfl]
  unfold rest1
  rw [scopedRest1_eq]
  unfold Dat.owesAt Pipeline.owesWithin
  iintro ⟨⟨⟨R1, R2, R3, R4, R5, R6, ⟨%fp, HP⟩⟩, ⟨⟨%ι, #Hwm⟩, HO⟩, Hs⟩, ⟨%Wd, -, Howes⟩, ⟨%d0, %f0, %hf0, H0⟩, ⟨%d1, %f1, %hf1, H1⟩⟩
  rw [before0] at hf0
  rw [before1] at hf1
  subst hf0
  subst hf1
  iapply (scatter_run c (stgI W c) (stgV W c) (W c (Proc.devRef .tc main_v0)) (hotOf c (word c (stgI W c))) ι
    (fun t => chk1_of t (hw c ⟨t.val, t.isLt⟩)) (fun t => chk2_of t (hw c ⟨t.val, t.isLt⟩)) (admits c _ _ (hw c) (hf c)) fp Wd)
  isplitl [H0]; · iexact H0
  isplitl [H1]; · iexact H1
  isplitl [HO]; · iexact HO
  isplitl [HP]; · iexact HP
  isplitr; · iexact Hwm
  isplitl [Hs]; · iexact Hs
  isplitl [Howes]; · iexact Howes
  iintro ⟨H0, H1, HO, HP, Hs, ⟨%Wd', Howes⟩⟩
  isplitl [R1 R2 R3 R4 R5 R6 HP HO Hs]
  · isplitl [R1 R2 R3 R4 R5 R6 HP]
    · isplitl [R1]; · iexact R1
      isplitl [R2]; · iexact R2
      isplitl [R3]; · iexact R3
      isplitl [R4]; · iexact R4
      isplitl [R5]; · iexact R5
      isplitl [R6]; · iexact R6
      iexists _; iexact HP
    isplitl [HO]
    · isplitr; · iexists ι; iexact Hwm
      rw [tiles_hot c (stgI W c) _ (hw c) (hz c)]
      iexact HO
    iexact Hs
  isplitl [Howes]
  · iexists Wd'; isplitr; · ipureintro; exact fun _ _ => Or.inl trivial
    iexact Howes
  isplitl [H0]; · iexists _; isplitr; swap; (· iexact H0); ipureintro; dsimp only [dat1]
  iexists _; isplitr; swap; (· iexact H1); ipureintro; dsimp only [dat1]

end Data

end Cert.Proof.Scatter

end
-- ==== Proof.Run.lean ====
/-
  The whole program's run: the two calls as regions of @main, the reshape and the copy between them as host operations,
  and the launch, which allocates the write mode's invariant. At the end the result holds the one-hot rows of the words
  the first call left, the argument is as launched, and every counter is at zero.
-/
module

public import proofs.«01_k».proof.Proof.ArgmaxRegion
public import proofs.«01_k».proof.Proof.ScatterRegion

@[expose] public section

set_option maxRecDepth 16384

noncomputable section

namespace Cert.Proof.Run

open Cert.KernelIdeal Cert.KernelIdeal.Gen
open Cert.Proof.Scatter Cert.Proof.Argmax
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf RegionSeg Seg HostSeg)

variable {F : FTy → Type} [FloatOps F]

local notation "𝕄" => MT nD τ sig Unit (Elt F) ℕ (UU F) ℕ

variable (m : (ℓ : Loc nD τ sig) → Buf (Elt F) ℓ)

/-- The winner of each row, as the first call leaves it. -/
def winner (c : Dev nD) : Vec F S128x1 .i32 := (best (V0 m) c 48).2

/-- What the calls leave in the buffers they write. -/
def outs : Outs (F := F) := fun j r c =>
  if j = 1 then
    (if h : r = main_call0_v0_0 then h ▸ (show Buf (Elt F) ((c : Thread nD τ).loc main_call0_v0_0) from fun _ => FloatOps.ofBits .f32 0#32)
    else if h : r = main_call0_v0_1 then h ▸ (show Buf (Elt F) ((c : Thread nD τ).loc main_call0_v0_1) from winner m c)
    else m ((c : Thread nD τ).loc r))
  else
    (if h : r = main_v0 then h ▸ (show Buf (Elt F) ((c : Thread nD τ).loc main_v0) from hotOf c (fun t => winner m c (ix2 t (0 : Fin 1))))
    else m ((c : Thread nD τ).loc r))

/-- The first call leaves zeros. -/
theorem outs_zero (c : Dev nD) : outs m 1 main_call0_v0_0 c = fun _ => FloatOps.ofBits .f32 0#32 := rfl

/-- The first call leaves the winners. -/
theorem outs_win (c : Dev nD) : outs m 1 main_call0_v0_1 c = winner m c := rfl

/-- The second call leaves the one-hot rows of the winners. -/
theorem outs_res (c : Dev nD) : outs m 3 main_v0 c = hotOf c (fun t => winner m c (ix2 t (0 : Fin 1))) := rfl

/-- The two calls' proof data. -/
def pdats : (p : Fin 2) → (c : Dev nD) → Dat τ (Elt F) Unit ℕ (UU F) ℕ (cfgs p) c
  | ⟨0, _⟩ => dat0 (V0 m)
  | ⟨1, _⟩ => dat1 (V2 m (outs m))

/-- The levels of the waits: one, at zero, on every core. -/
abbrev L : GSem nD τ sig → Finset Unit := fun g => if g.1.2 = .tc then {()} else ∅
abbrev lv : GSem nD τ sig → Unit → ℕ := fun _ _ => 0

/-- Each call waits at level zero only. -/
theorem cut (p : Fin 2) : Pipeline.LevelCut (pcfgs (F := F)) adm () L lv p (fun _ => 0) (fun _ => 0) where
  hι c w s := by
    refine (congrArg (fun S : Finset Unit => () ∈ S) (if_pos (rfl : (c.tc : Thread nD τ).2 = .tc))).mpr ?_
    exact Finset.mem_singleton_self _
  hιb c w s := le_refl _
  hD c g i h := absurd h (Nat.lt_irrefl 0)

/-- A core that owes nothing may wait. -/
theorem mayWaits (c : Dev nD) : (levAts L lv : sProp 𝕄) ⊢ Transfers.MayWaits (c : Thread nD τ) () (0 : CellTallies nD τ sig Unit) := by
  iintro -
  iapply (Transfers.MayWaits.zero (c : Thread nD τ) ())
  iempintro

/-- What rides along every item. -/
abbrev E (_ : Fin 3) (c : Dev nD) : sProp 𝕄 :=
  iprop((∃ ι, wmInv (embW (F := F)) ι) ∗ ∃ W, owes (c : Thread nD τ) (0 : CellTallies nD τ sig Unit) W)

/-- The first call's arrays are among the program's. -/
theorem sub0 : Pipeline.arrRefs (τ := τ) spec0 ⊆ Pipeline.ucRefs τ sig := Pipeline.arrRefs_sub_ucRefs spec0 (by decide)

/-- So are the second call's. -/
theorem sub1 : Pipeline.arrRefs (τ := τ) spec1 ⊆ Pipeline.ucRefs τ sig := Pipeline.arrRefs_sub_ucRefs spec1 (by decide)

/-- The first call's record. -/
def reg0 : RegionSeg (pcfgs (F := F)) adm (pdats m) () defs₀ 𝒱₀ L lv 0 :=
  Pipeline.RegionSeg.ofHeldD (pcfgs (F := F)) adm (pdats m) () defs₀ 𝒱₀ L lv 0 (fun _ => 0) () (fun k : PEmpty.{1} => k.elim)
    (Pipeline.OwnSemFacts.none _) (fun _ => iprop(emp)) (fun _ => iprop(emp)) launch0.toP rfl
    (fun c => body0_obligation (V0 m) c) (fun _ _ => rfl) (fun _ => rfl) (fun c w => Dat.share_full _ (fun _ => rfl) w) mayWaits
    (fun c => by
      show iprop(Pipeline.scopedRest spec0 c ∗ _) ⊢ iprop((∃ f, owns (c : Thread nD τ) MS fullShare f) ∗ restA c)
      rw [scopedRest0_eq]
      iintro ⟨⟨⟨%f, HS⟩, HR⟩, -⟩
      isplitl [HS]
      · iexists f; rw [owns_whole_eq]; iexists f; isplitr; (· ipureintro; rfl); iexact HS
      iexact HR)
    (fun c => by
      show iprop(owns (c : Thread nD τ) MS fullShare _ ∗ restA c) ⊢ iprop(Pipeline.scopedRest spec0 c ∗ _)
      rw [scopedRest0_eq, owns_whole_eq, Pipeline.ownSems0_none]
      iintro ⟨⟨%f, -, HS⟩, HR⟩
      isplitl
      · isplitl [HS]; · iexists f; iexact HS
        iexact HR
      isplitr <;> iempintro)
    (fun _ => 0) (cut 0)
    (fun c => iprop(StableHlo.held (c.tc : Thread nD τ) (Pipeline.ucRefs τ sig \ Pipeline.arrRefs spec0) (V0 m c) ∗ ∃ ι, wmInv (embW (F := F)) ι))
    (V0 m) (V1 m (outs m))
    (fun c w => rfl)
    (fun c w => by
      fin_cases w
      · exact (fin_in (V0 m) c).trans (V1_of m (outs m) c main_arg0 (by decide)).symm
      · exact (fin_zero (V0 m) c).trans (by rfl)
      · exact (fin_win (V0 m) c).trans (by rfl))

/-- The second call's own counters: the one. -/
theorem own1 (c : Dev nD) : (Pipeline.ownSems0 osem1 c : sProp 𝕄) = semVal ((c : Thread nD τ), sem) 0 := by
  rw [Pipeline.ownSems0_eq_of_list c osem1 [0] (by decide) (by decide)]; rfl

section Second

variable (hw : ∀ c t, (word c (stgI (V2 m (outs m)) c) t).toNat < 99968)
  (hf : ∀ c (a : Fin 16) (b : Fin 8), (show Vec F S16x8 .i32 from stgV (V2 m (outs m)) c) (ix2 a b) = word c (stgI (V2 m (outs m)) c) ⟨8 * a.val + b.val, row_lt a b⟩)
  (hz : ∀ c (i : S128x100000.Idx), (V2 m (outs m) c (Proc.devRef .tc main_v0) : S128x100000.Idx → F .f32) i = FloatOps.sitofp .f32 (0#32))

/-- The rest of the held buffers about the second call. -/
abbrev held1 (c : Dev nD) : sProp 𝕄 :=
  StableHlo.held (c.tc : Thread nD τ) ((Pipeline.ucRefs τ sig \ Pipeline.arrRefs spec1) \ Pipeline.hbmRefs {main_v0}) (V2 m (outs m) c)

/-- The second call's record. -/
def reg1 : RegionSeg (pcfgs (F := F)) adm (pdats m) () defs₀ 𝒱₀ L lv 1 :=
  Pipeline.RegionSeg.ofHeldD (pcfgs (F := F)) adm (pdats m) () defs₀ 𝒱₀ L lv 1 (fun _ => 0) () osem1
    ownSem1 (X1 (V2 m (outs m))) (Y1 (V2 m (outs m))) launch1.toP rfl
    (fun c => (body1_obligation (V2 m (outs m)) hw hf hz c).loose) (fun _ _ => rfl) (fun _ => rfl) (fun c w => Dat.share_full _ (fun _ => rfl) w) mayWaits
    (fun c => by
      show iprop(Pipeline.scopedRest spec1 c ∗ _) ⊢ iprop(rest1 c ∗ X1 (V2 m (outs m)) c ∗ semVal ((c : Thread nD τ), sem) 0)
      rw [own1]
      iintro ⟨HR, HX, Hs, -⟩
      isplitl [HR]; · iexact HR
      isplitl [HX]; · iexact HX
      iexact Hs)
    (fun c => by
      show iprop(rest1 c ∗ Y1 (V2 m (outs m)) c ∗ semVal ((c : Thread nD τ), sem) 0) ⊢ iprop(rest1 c ∗ Y1 (V2 m (outs m)) c ∗ Pipeline.ownSems0 osem1 c)
      rw [own1])
    (fun _ => 0) (cut 1)
    (held1 m)
    (V2 m (outs m)) (V3 m (outs m))
    (fun c w => rfl)
    (fun c w => by
      fin_cases w
      · exact ((dat1 (V2 m (outs m)) c).arrAt_in 0 rfl _).trans (V3_of m (outs m) c main_call0_v0_1 (by decide)).symm
      · exact ((dat1 (V2 m (outs m)) c).arrAt_in 1 rfl _).trans (V3_of m (outs m) c main_call0_v1 (by decide)).symm)

/-- The launch gives the first call what it needs. -/
theorem pre0 (c : Dev nD) : iprop(StableHlo.held (c : Thread nD τ) (Pipeline.ucRefs τ sig) (V0 m c) ∗ E 0 c) ⊢ (reg0 m).pre c := by
  show _ ⊢ iprop(StableHlo.held (c.tc : Thread nD τ) (Pipeline.arrRefs spec0) (V0 m c) ∗ emp
    ∗ (StableHlo.held (c.tc : Thread nD τ) (Pipeline.ucRefs τ sig \ Pipeline.arrRefs spec0) (V0 m c) ∗ ∃ ι, wmInv (embW (F := F)) ι)
    ∗ ∃ Wd, owes (c : Thread nD τ) (0 : CellTallies nD τ sig Unit) Wd)
  rw [StableHlo.held_sub_split (c.tc : Thread nD τ) sub0]
  iintro ⟨⟨Ha, Hr⟩, HI, HO⟩
  isplitl [Ha]; · iexact Ha
  isplitr; · iempintro
  isplitl [Hr HI]
  · isplitl [Hr]; · iexact Hr
    iexact HI
  iexact HO

/-- What the first call leaves is what the host code starts from. -/
theorem post0 (c : Dev nD) : (reg0 m).post c ⊢ iprop(StableHlo.held (c : Thread nD τ) (Pipeline.ucRefs τ sig) (V1 m (outs m) c) ∗ E 1 c) := by
  show iprop(StableHlo.held (c.tc : Thread nD τ) (Pipeline.arrRefs spec0) (V1 m (outs m) c) ∗ emp
    ∗ (StableHlo.held (c.tc : Thread nD τ) (Pipeline.ucRefs τ sig \ Pipeline.arrRefs spec0) (V0 m c) ∗ ∃ ι, wmInv (embW (F := F)) ι)
    ∗ ∃ Wd, owes (c : Thread nD τ) (0 : CellTallies nD τ sig Unit) Wd) ⊢ _
  rw [StableHlo.held_sub_split (c.tc : Thread nD τ) sub0 (V1 m (outs m) c),
    StableHlo.held_congr (c := (c.tc : Thread nD τ)) (S := Pipeline.ucRefs τ sig \ Pipeline.arrRefs spec0) (V := V1 m (outs m) c) (V' := V0 m c) (fun b hb => by
      obtain ⟨r, hr⟩ : ∃ r : Ref sig .tc, b = Proc.devRef .tc r := by
        obtain ⟨r, -, rfl⟩ := Finset.mem_map.mp (Finset.mem_filter.mp (Finset.mem_sdiff.mp hb).1).1
        exact ⟨r, rfl⟩
      subst hr
      have hn : ∀ w, r ≠ Pipeline.arrRef spec0 w := fun w e => (Finset.mem_sdiff.mp hb).2
        (Finset.mem_map.mpr ⟨r, Finset.mem_image.mpr ⟨w, Finset.mem_univ _, e.symm⟩, rfl⟩)
      exact V1_of m (outs m) c r (by
        simp only [List.mem_cons, List.not_mem_nil, or_false, not_or]
        exact ⟨hn 1, hn 2⟩))]
  iintro ⟨Ha, -, ⟨Hr, HI⟩, HO⟩
  isplitl [Ha Hr]
  · isplitl [Ha]; · iexact Ha
    iexact Hr
  isplitl [HI]; · iexact HI
  iexact HO

/-- The result is an array of the program that no window of the second call stages. -/
theorem sub2 : Pipeline.hbmRefs (τ := τ) ({main_v0} : Finset (Ref sig .tc)) ⊆ Pipeline.ucRefs τ sig \ Pipeline.arrRefs spec1 := by
  intro b hb
  obtain ⟨r, hr, rfl⟩ := Finset.mem_map.mp hb
  obtain rfl := Finset.mem_singleton.mp hr
  refine Finset.mem_sdiff.mpr ⟨Finset.mem_filter.mpr ⟨StableHlo.devRef_mem_tcRefs _, by decide⟩, fun h => ?_⟩
  obtain ⟨r, hr, e⟩ := Finset.mem_map.mp h
  obtain ⟨w, -, rfl⟩ := Finset.mem_image.mp hr
  have := Proc.devRef_injective (τ := τ) (sig := sig) .tc e
  revert this
  fin_cases w <;> decide

/-- The result's buffer, as the second call holds it. -/
theorem held_res (c : Dev nD) (V : Valuation τ sig (Elt F)) :
    (StableHlo.held (c.tc : Thread nD τ) (Pipeline.hbmRefs {main_v0}) V : sProp 𝕄) = pt c MO (V (Proc.devRef .tc main_v0)) := by
  rw [Pipeline.held_hbm, BI.bigSep_singleton]

/-- The host code gives the second call what it needs. -/
theorem pre1 (c : Dev nD) : iprop(StableHlo.held (c : Thread nD τ) (Pipeline.ucRefs τ sig) (V2 m (outs m) c) ∗ E 1 c) ⊢ (reg1 m hw hf hz).pre c := by
  show _ ⊢ iprop(StableHlo.held (c.tc : Thread nD τ) (Pipeline.arrRefs spec1) (V2 m (outs m) c) ∗ X1 (V2 m (outs m)) c
    ∗ held1 m c ∗ ∃ Wd, owes (c : Thread nD τ) (0 : CellTallies nD τ sig Unit) Wd)
  rw [StableHlo.held_sub_split (c.tc : Thread nD τ) sub1, StableHlo.held_sub_split (c.tc : Thread nD τ) sub2, held_res]
  iintro ⟨⟨Ha, Ho, Hr⟩, HI, HO⟩
  isplitl [Ha]; · iexact Ha
  isplitl [HI Ho]
  · isplitl [HI]; · iexact HI
    iexact Ho
  isplitl [Hr]; · iexact Hr
  iexact HO

/-- Before the second call the winners are still there. -/
theorem V2_win (c : Dev nD) : V2 m (outs m) c main_call0_v0_1 = winner m c :=
  (V2_of m (outs m) c main_call0_v0_1 (by decide)).trans ((Function.update_self _ _ _).trans (outs_win m c))

/-- After the first call the array is zero. -/
theorem V1_zero (c : Dev nD) : V1 m (outs m) c main_call0_v0_0 = fun _ => FloatOps.ofBits .f32 0#32 :=
  (Function.update_of_ne (StableHlo.devRef_ne_of_ne (by decide : main_call0_v0_0 ≠ main_call0_v0_1)) _ _).trans ((Function.update_self _ _ _).trans (outs_zero m c))

/-- After the first call the winners are there. -/
theorem V1_win (c : Dev nD) : V1 m (outs m) c main_call0_v0_1 = winner m c := (Function.update_self _ _ _).trans (outs_win m c)

/-- The copy leaves the first call's array in the result's place. -/
theorem after_copy (V : Valuation τ sig (Elt F)) : StableHlo.after hostOps1 V main_v0 = V main_call0_v0_0 := by
  after_results
  rfl

/-- The reshape leaves row 8a+b of the winners at (a, b). -/
theorem after_words (V : Valuation τ sig (Elt F)) (a : Fin 16) (b : Fin 8) : (StableHlo.after hostOps1 V main_call0_v1 : S16x8.Idx → BitVec 32) (ix2 a b)
    = (V main_call0_v0_1 : S128x1.Idx → BitVec 32) (ix2 (⟨8 * a.val + b.val, row_lt a b⟩ : Fin 128) (0 : Fin 1)) := by
  after_results
  pointwise
  exact congrArg (V main_call0_v0_1 : S128x1.Idx → BitVec 32) (congrArg (fun x => ix2 x (0 : Fin 1)) (Fin.ext (by show a.val * 8 + b.val = 8 * a.val + b.val; omega)))

/-- Before the second call the result is zero. -/
theorem V2_zero (c : Dev nD) : V2 m (outs m) c main_v0 = fun _ => FloatOps.ofBits .f32 0#32 := (after_copy _).trans (V1_zero m c)

/-- Before the second call the winners are there as 16 rows of 8 too. -/
theorem V2_words (c : Dev nD) (a : Fin 16) (b : Fin 8) : (V2 m (outs m) c main_call0_v1 : S16x8.Idx → BitVec 32) (ix2 a b) = winner m c (ix2 (⟨8 * a.val + b.val, row_lt a b⟩ : Fin 128) (0 : Fin 1)) :=
  (after_words _ a b).trans (congrFun (V1_win m c) _)

/-- The words the second call reads are the winners. -/
theorem word_eq (c : Dev nD) : word c (stgI (V2 m (outs m)) c) = fun t => winner m c (ix2 t (0 : Fin 1)) := by
  funext t
  refine (congrFun (V2_win m c) _).trans (congrArg (winner m c) ?_)
  funext a
  refine Fin.ext ?_
  refine (ValueKit.view_emb_slice_whole_unit_val _ _ _ _ _ _).trans ?_
  fin_cases a <;> exact Nat.zero_add _

/-- The two forms in which the second call gets the winners agree. -/
theorem word_at (c : Dev nD) (a : Fin 16) (b : Fin 8) :
    (show Vec F S16x8 .i32 from stgV (V2 m (outs m)) c) (ix2 a b) = word c (stgI (V2 m (outs m)) c) ⟨8 * a.val + b.val, row_lt a b⟩ := by
  rw [word_eq]
  refine Eq.trans ?_ (V2_words m c a b)
  refine congrArg (V2 m (outs m) c main_call0_v1 : S16x8.Idx → BitVec 32) ?_
  funext a
  refine Fin.ext ?_
  refine (ValueKit.view_emb_slice_whole_unit_val _ _ _ _ _ _).trans ?_
  fin_cases a <;> exact Nat.zero_add _

/-- What the second call leaves is what the program ends with. -/
theorem post1 (c : Dev nD) : (reg1 m hw hf hz).post c ⊢ iprop(StableHlo.held (c : Thread nD τ) (Pipeline.ucRefs τ sig) (V3 m (outs m) c) ∗ E 2 c) := by
  show iprop(StableHlo.held (c.tc : Thread nD τ) (Pipeline.arrRefs spec1) (V3 m (outs m) c) ∗ Y1 (V2 m (outs m)) c
    ∗ held1 m c ∗ ∃ Wd, owes (c : Thread nD τ) (0 : CellTallies nD τ sig Unit) Wd) ⊢ _
  rw [StableHlo.held_sub_split (c.tc : Thread nD τ) sub1 (V3 m (outs m) c), StableHlo.held_sub_split (c.tc : Thread nD τ) sub2 (V3 m (outs m) c), held_res,
    show V3 m (outs m) c (Proc.devRef .tc main_v0) = hotOf c (word c (stgI (V2 m (outs m)) c)) by rw [word_eq]; exact (Function.update_self _ _ _).trans (outs_res m c),
    StableHlo.held_congr (c := (c.tc : Thread nD τ)) (S := (Pipeline.ucRefs τ sig \ Pipeline.arrRefs spec1) \ Pipeline.hbmRefs {main_v0}) (V := V3 m (outs m) c) (V' := V2 m (outs m) c) (fun b hb => by
      refine Function.update_of_ne (fun e => ?_) _ _
      exact (Finset.mem_sdiff.mp hb).2 (Finset.mem_map.mpr ⟨main_v0, Finset.mem_singleton_self _, e.symm⟩))]
  iintro ⟨Ha, ⟨HI, Ho⟩, Hr, HO⟩
  isplitl [Ha Ho Hr]
  · isplitl [Ha]; · iexact Ha
    isplitl [Ho]; · iexact Ho
    iexact Hr
  isplitl [HI]; · iexact HI
  iexact HO

end Second

/-! ## The launch -/

/-- The pipeline library's place in the proof's algebra. -/
abbrev EP : Emb (URounds (GSem nD τ sig) Unit) 𝕄 :=
  ((UEmb.inl : UEmb (URounds (GSem nD τ sig) Unit) (Pipeline.UD sig nD τ)).trans
    ((UEmb.inr : UEmb (Pipeline.UD sig nD τ) (UU F)).trans (uEmb (nD := nD) (sig := sig) (Ix := Unit) (Val := Elt F) (Name := ℕ) (U := UU F) (Lvl := ℕ)))).toEmb

/-- The algebra's element at launch. -/
def u₀ : UU F := (wm₀ nD τ sig (Elt F), (initOf (Pipeline.cells (cfgs) cellOf_inj) (Pipeline.launchToks (cfgs) cellOf_inj), 1))

/-- Owning it is owning each part. -/
theorem own_u₀ : (ownU (u₀ (F := F)) : sProp 𝕄) ⊢ iprop(ownU (embW (F := F) (wm₀ nD τ sig (Elt F)))
    ∗ BI.own (EP (F := F) (initOf (Pipeline.cells cfgs cellOf_inj) (Pipeline.launchToks cfgs cellOf_inj)))) := by
  unfold ownU u₀
  refine (BI.own_op (r := uEmb (embW (F := F) (wm₀ nD τ sig (Elt F)))) (r' := uEmb ((UEmb.inr : UEmb (Pipeline.UD sig nD τ) (UU F))
    ((UEmb.inl : UEmb (URounds (GSem nD τ sig) Unit) (Pipeline.UD sig nD τ)) (initOf (Pipeline.cells cfgs cellOf_inj) (Pipeline.launchToks cfgs cellOf_inj))))) ?_).1
  rw [(uEmb : UEmb (UU F) 𝕄).op_eq]
  exact Part.mem_map _ (Prod.mk_mem_op (URA.mem_op_one _) (URA.mem_one_op _))

include m in
/-- The launch allocates the pipelines' tokens and the counters of the write mode. -/
theorem launch_u (ρ : Dev nD → PrngReg) : (ownU (u₀ (F := F)) : sProp 𝕄) ⊢ |={Set.univ}=> iprop(BI.own (EP (F := F) (initOf (Pipeline.cells cfgs cellOf_inj) (Pipeline.launchToks cfgs cellOf_inj)))
    ∗ bigSep Finset.univ (fun _ : Dev nD => iprop(∃ ι, wmInv (embW (F := F)) ι))) := by
  iintro Hu
  ihave H := own_u₀ $$ Hu
  icases H with ⟨HW, HP⟩
  imod (wmInv_alloc (emb := embW (F := F)) (Name := ℕ) (Ix := Unit) (Lvl := ℕ) (⟨m, fun _ => 0, ρ⟩)) $$ [HW] with ⟨%ι, -, #HI⟩
  · iexact HW
  imodintro
  isplitl [HP]; · iexact HP
  iapply (bigSep_intro_persistent (R := wmInv (embW (F := F)) ι) (fun _ _ => by iintro H; iexists ι; iexact H))
  iexact HI

section Main

variable (hw : ∀ c (t : Fin 128), (winner m c (ix2 t (0 : Fin 1))).toNat < 99968) (hz0 : (FloatOps.ofBits .f32 0#32 : F .f32) = FloatOps.sitofp .f32 (0#32))

include hw in
/-- The words the second call reads are below 99968. -/
theorem hw_of (c : Dev nD) (t : Fin 128) : (word c (stgI (V2 m (outs m)) c) t).toNat < 99968 := by rw [word_eq]; exact hw c t

include hz0 in
/-- The array the second call starts from holds the converted word zero. -/
theorem hz_of (c : Dev nD) (i : S128x100000.Idx) : (V2 m (outs m) c (Proc.devRef .tc main_v0) : S128x100000.Idx → F .f32) i = FloatOps.sitofp .f32 (0#32) :=
  (congrFun (V2_zero m c) i).trans hz0

/-- What the launch leaves every core. -/
theorem launch_E (ρ : Dev nD → PrngReg) : iprop((bigSep Finset.univ fun c : Dev nD => iprop(unscopedSems0 c ∗ owes (c : Thread nD τ) (0 : CellTallies nD τ sig Unit) ∅ ∗ Pipeline.launchCred 0 c ∗ prngReg c (ρ c) ∗ ∃ ι, wmInv (embW (F := F)) ι)) ∗ levAts L lv)
      ⊢ (|={Set.univ}=> bigSep Finset.univ (E (F := F) 0) : sProp 𝕄) := by
  have hm : (bigSep Finset.univ fun c : Dev nD => iprop(unscopedSems0 c ∗ owes (c : Thread nD τ) (0 : CellTallies nD τ sig Unit) ∅ ∗ Pipeline.launchCred 0 c ∗ prngReg c (ρ c) ∗ ∃ ι, wmInv (embW (F := F)) ι) : sProp 𝕄) ⊢ bigSep Finset.univ (E (F := F) 0) := bigSep_mono fun c _ => show iprop(unscopedSems0 c ∗ owes (c : Thread nD τ) (0 : CellTallies nD τ sig Unit) ∅ ∗ Pipeline.launchCred 0 c ∗ prngReg c (ρ c) ∗ ∃ ι, wmInv (embW (F := F)) ι) ⊢ E (F := F) 0 c by
    iintro ⟨-, HO, -, -, HI⟩
    isplitl [HI]; · iexact HI
    iexists ∅; iexact HO
  iintro ⟨H, -⟩
  ihave H := hm $$ H
  imodintro
  iexact H

include hw hz0 in
set_option backward.isDefEq.respectTransparency.types false in
/-- Every weakly fair run ends with the one-hot rows of the winners as the result, the argument as launched and every
    counter at zero. -/
theorem run_kernel (ρ : Dev nD → PrngReg) :
    θ_run defs (onTc (τ := τ) (main (F := F))) ⟨m, fun _ => 0, ρ⟩ (fun r => (∀ c : Dev nD,
      r.2.mem ((c.tc : Thread nD τ).loc main_v0) = hotOf c (fun t => winner m c (ix2 t (0 : Fin 1)))
      ∧ r.2.mem ((c.tc : Thread nD τ).loc main_arg0) = m ((c.tc : Thread nD τ).loc main_arg0))
      ∧ r.2.sem = fun _ => 0) := by
  refine Pipeline.θ_run_regions_kit_dev_sems (pcfgs (F := F)) adm (pdats m) () cellOf_inj EP defs₀ 𝒱₀ L lv m ρ main
    (segs m (outs m) 𝒱₀ L lv E () (pdats m) (reg0 m) (reg1 m (hw_of m hw) (word_at m) (hz_of m hz0)))
    (fun c Q => by
      rewrite [main_chain c, Seg.run_eq_chain,
        show (segs m (outs m) 𝒱₀ L lv E () (pdats m) (reg0 m) (reg1 m (hw_of m hw) (word_at m) (hz_of m hz0)) c).map Seg.prog = [
          Prog.lift (.customCall (Pipeline.entry 0) ()),
          StableHlo.seq hostOps1,
          Prog.lift (.customCall (Pipeline.entry 1) ()) ] from rfl]
      exact .rfl)
    (fun c => by simp only [segs, Seg.pipes_host, Seg.pipes_region, Seg.pipes_nil]; decide) 0 (fun g hg => if_neg hg)
    (fun _ => iprop(∃ ι, wmInv (embW (F := F)) ι)) (u₀ (F := F)) (launch_u m ρ)
    (T₀ := fun c => iprop(StableHlo.held (c : Thread nD τ) (Pipeline.ucRefs τ sig) (V0 m c) ∗ E 0 c))
    (Tₙ := fun c => StableHlo.held (c : Thread nD τ) (Pipeline.ucRefs τ sig) (V3 m (outs m) c))
    (hch := fun c => ⟨pre0 m c, post0 m c, pre1 m (hw_of m hw) (word_at m) (hz_of m hz0) c, (post1 m (hw_of m hw) (word_at m) (hz_of m hz0) c).trans (sep_mono .rfl (by
      iintro ⟨-, HO⟩; iexact HO))⟩)
    (hinit := ?_) (QY := fun c s => s.mem ((c.tc : Thread nD τ).loc main_v0) = hotOf c (fun t => winner m c (ix2 t (0 : Fin 1))) ∧ s.mem ((c.tc : Thread nD τ).loc main_arg0) = m ((c.tc : Thread nD τ).loc main_arg0))
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred 0 c ∗ prngReg c (ρ c) ∗ ∃ ι, wmInv (embW (F := F)) ι))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred 0 c ∗ prngReg c (ρ c) ∗ ∃ ι, wmInv (embW (F := F)) ι))
            : sProp 𝕄) := by
      rw [← bigSep_sep']
      exact bigSep_mono fun c _ => by rw [← Pipeline.unscopedBufs_held (Ix := Unit) (Name := ℕ) (U := UU F) (Lvl := ℕ) c (V0 m c)]; exact BI.Entails.refl _
    iintro ⟨H, Hla⟩
    ihave H' := hsplit $$ H
    icases H' with ⟨Hh, Hr⟩
    imod (launch_E ρ) $$ [Hr Hla] with HE
    · isplitl [Hr]; · iexact Hr
      iexact Hla
    imodintro
    rw [show (bigSep Finset.univ fun c : Dev nD => iprop(StableHlo.held (c : Thread nD τ) (Pipeline.ucRefs τ sig) (V0 m c) ∗ E 0 c) : sProp 𝕄)
      = iprop((bigSep Finset.univ fun c : Dev nD => StableHlo.held (c : Thread nD τ) (Pipeline.ucRefs τ sig) (V0 m c)) ∗ bigSep Finset.univ (E (F := F) 0)) from bigSep_sep' ..]
    isplitl [Hh]; · iexact Hh
    iexact HE
  · unfold StableHlo.held
    iintro ⟨Hh, HSI⟩
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨(h (Proc.devRef .tc main_v0) (Finset.mem_filter.mpr ⟨StableHlo.devRef_mem_tcRefs main_v0, by decide⟩)).trans ((Function.update_self _ _ _).trans (outs_res m c)),
        (h (Proc.devRef .tc main_arg0) (Finset.mem_filter.mpr ⟨StableHlo.devRef_mem_tcRefs main_arg0, by decide⟩)).trans (V3_main_arg0 m (outs m) c)⟩
    · iexact HSI

end Main

end Cert.Proof.Run

end
-- ==== Proof.KernelValue.lean ====
/-
  The first call over the extended reals: after every block the running winner is the first column of the greatest score
  seen so far.
-/
module

public import proofs.«01_k».proof.Proof.KernelWords
public import proofs.«01_k».proof.Proof.RefValue
public import proofs.«01_k».proof.Proof.Run

@[expose] public section

set_option maxRecDepth 16384

noncomputable section

namespace Cert.Proof.KernelValue

open Cert.KernelIdeal Cert.KernelIdeal.Gen
open Cert.Proof.Argmax
open Cert.Proof.RefValue (sc word)
open Cert.Proof.RealScore
open Idealize.ShloMosaic
open Idealize.ShloMosaic.TcCoe
open Idealize.ShloMosaic.Pipeline (Dat Cfg Window)

/-- The first of the greatest entries between two places, with the entry and the place as a word. -/
def Best {n : ℕ} (y : Fin n → EReal) (lo hi : ℕ) (m : EReal) (a : BitVec 32) : Prop :=
  ∃ v : Fin n, lo ≤ v.val ∧ v.val < hi ∧ m = y v ∧ a = BitVec.ofNat 32 v.val
    ∧ ∀ v' : Fin n, lo ≤ v'.val → v'.val < hi → y v' ≤ y v ∧ (v'.val < v.val → y v' < y v)

/-- A later stretch's best replaces the earlier one's where it is strictly greater. -/
theorem Best.merge {n : ℕ} {y : Fin n → EReal} {lo mid hi : ℕ} {m m' : EReal} {a a' : BitVec 32} (h1 : lo ≤ mid) (h2 : mid ≤ hi)
    (h : Best y lo mid m a) (h' : Best y mid hi m' a') :
    Best y lo hi (if m < m' then m' else m) (if m < m' then a' else a) := by
  obtain ⟨v, hv1, hv2, rfl, rfl, hv⟩ := h
  obtain ⟨w, hw1, hw2, rfl, rfl, hw⟩ := h'
  by_cases hlt : y v < y w
  · rw [if_pos hlt, if_pos hlt]
    refine ⟨w, by omega, hw2, rfl, rfl, fun u hu1 hu2 => ?_⟩
    by_cases hu : u.val < mid
    · have := lt_of_le_of_lt (hv u hu1 hu).1 hlt
      exact ⟨this.le, fun _ => this⟩
    · exact hw u (by omega) hu2
  · rw [if_neg hlt, if_neg hlt]
    refine ⟨v, hv1, by omega, rfl, rfl, fun u hu1 hu2 => ?_⟩
    by_cases hu : u.val < mid
    · exact hv u hu1 hu
    · exact ⟨(hw u (by omega) hu2).1.trans (not_lt.mp hlt), fun _ => by omega⟩

/-- A maximum from the lower end is one of the entries or the end itself, and no entry exceeds it. -/
theorem foldmax_spec {ι : Type} [DecidableEq ι] (f : ι → EReal) (s : Finset ι) :
    (s.fold max ⊥ f = ⊥ ∨ ∃ i ∈ s, s.fold max ⊥ f = f i) ∧ ∀ i ∈ s, f i ≤ s.fold max ⊥ f := by
  induction s using Finset.induction_on with
  | empty => exact ⟨.inl Finset.fold_empty, fun i hi => absurd hi (by simp)⟩
  | insert a s ha ih =>
    rw [Finset.fold_insert ha]
    refine ⟨?_, fun i hi => ?_⟩
    · rcases le_total (f a) (s.fold max ⊥ f) with h | h
      · rw [max_eq_right h]
        exact ih.1.imp id fun ⟨i, hi, e⟩ => ⟨i, Finset.mem_insert_of_mem hi, e⟩
      · rw [max_eq_left h]
        exact .inr ⟨a, Finset.mem_insert_self a s, rfl⟩
    · rcases Finset.mem_insert.mp hi with rfl | hi
      · exact le_max_left _ _
      · exact (ih.2 i hi).trans (le_max_right _ _)

/-- A minimum of words is one of them or the word it starts from, and no word is less. -/
theorem foldmin_spec {ι : Type} [DecidableEq ι] (f : ι → BitVec 32) (b : BitVec 32) (s : Finset ι) :
    (s.fold IntOp.minsi b f = b ∨ ∃ i ∈ s, s.fold IntOp.minsi b f = f i) ∧ ∀ i ∈ s, (s.fold IntOp.minsi b f).toInt ≤ (f i).toInt := by
  induction s using Finset.induction_on with
  | empty => exact ⟨.inl Finset.fold_empty, fun i hi => absurd hi (by simp)⟩
  | insert a s ha ih =>
    rw [Finset.fold_insert ha]
    have em : IntOp.minsi (f a) (s.fold IntOp.minsi b f)
        = if (f a).slt (s.fold IntOp.minsi b f) then f a else s.fold IntOp.minsi b f := rfl
    rw [em]
    by_cases h : (f a).slt (s.fold IntOp.minsi b f) = true
    · rw [if_pos h]
      have hl : (f a).toInt < (s.fold IntOp.minsi b f).toInt := BitVec.slt_iff_toInt_lt.mp h
      refine ⟨.inr ⟨a, Finset.mem_insert_self a s, rfl⟩, fun i hi => ?_⟩
      rcases Finset.mem_insert.mp hi with rfl | hi
      · exact le_refl _
      · exact hl.le.trans (ih.2 i hi)
    · rw [if_neg h]
      have hl : ¬ (f a).toInt < (s.fold IntOp.minsi b f).toInt := fun hh => h (BitVec.slt_iff_toInt_lt.mpr hh)
      refine ⟨ih.1.imp id fun ⟨i, hi, e⟩ => ⟨i, Finset.mem_insert_of_mem hi, e⟩, fun i hi => ?_⟩
      rcases Finset.mem_insert.mp hi with rfl | hi
      · exact not_lt.mp hl
      · exact ih.2 i hi

/-- A block's masked scores, their row maximum and the least column that attains it, as the call takes them, give the best
    of the block. -/
theorem block_best {n : ℕ} (hn : n < 2 ^ 31 - 1) (y : Fin n → EReal) (hy : ∀ v, ⊥ < y v) (lo len : ℕ) (hlo : lo < n) (hlen : 0 < len)
    (q : Fin len → EReal) (cw : Fin len → BitVec 32) (hc : ∀ k : Fin len, cw k = BitVec.ofNat 32 (lo + k.val))
    (hin : ∀ (k : Fin len) (h : lo + k.val < n), q k = y ⟨lo + k.val, h⟩) (hout : ∀ k : Fin len, ¬ lo + k.val < n → q k = ⊥)
    (hb : lo + len < 2 ^ 31) :
    Best y lo (lo + len) (Finset.univ.fold max ⊥ q)
      (Finset.univ.fold IntOp.minsi 2147483647#32 fun k =>
        if q k = Finset.univ.fold max ⊥ q then cw k else 2147483647#32) := by
  obtain ⟨h1, h2⟩ := foldmax_spec q Finset.univ
  generalize Finset.univ.fold max ⊥ q = M at h1 h2 ⊢
  obtain ⟨h3, h4⟩ := foldmin_spec (fun k => if q k = M then cw k else 2147483647#32) 2147483647#32 Finset.univ
  generalize Finset.univ.fold IntOp.minsi 2147483647#32 (fun k => if q k = M then cw k else 2147483647#32) = a at h3 h4 ⊢
  have hint : ∀ k : Fin len, (cw k).toInt = ((lo + k.val : ℕ) : ℤ) := fun k => by
    have := k.isLt
    rw [hc, BitVec.toInt_eq_toNat_of_lt (by rw [BitVec.toNat_ofNat]; omega), BitVec.toNat_ofNat]; omega
  have hM : ⊥ < M := lt_of_lt_of_le (by rw [hin ⟨0, hlen⟩ (by omega)]; exact hy _) (h2 ⟨0, hlen⟩ (Finset.mem_univ _))
  obtain ⟨k₀, -, hk₀⟩ := h1.resolve_left hM.ne'
  have hlow : a.toInt ≤ (cw k₀).toInt := by
    have := h4 k₀ (Finset.mem_univ _)
    rwa [if_pos hk₀.symm] at this
  have hr : ∀ k : Fin len, q k = M → lo + k.val < n := fun k hk => by
    by_contra hh
    rw [hout k hh] at hk
    exact hM.ne hk
  have hbig : (2147483647#32 : BitVec 32).toInt = 2147483647 := by decide
  have hne : a.toInt ≠ 2147483647 := by
    have := hr k₀ hk₀.symm
    rw [hint k₀] at hlow
    omega
  have hne' : a ≠ 2147483647#32 := fun h => hne (by rw [h]; exact hbig)
  obtain ⟨k, -, hk⟩ := h3.resolve_left hne'
  have hq : q k = M := by
    by_contra hh
    rw [if_neg hh] at hk
    exact hne' hk
  rw [if_pos hq] at hk
  have hkn := hr k hq
  refine ⟨⟨lo + k.val, hkn⟩, Nat.le_add_right _ _, Nat.add_lt_add_left k.isLt _, ?_, by rw [hk, hc], fun v hv1 hv2 => ?_⟩
  · rw [← hq, hin k hkn]
  · have hv : lo + (v.val - lo) = v.val := by omega
    have hqv : q ⟨v.val - lo, by omega⟩ = y v := by
      rw [hin ⟨v.val - lo, by omega⟩ (by show lo + (v.val - lo) < n; rw [hv]; exact v.isLt)]
      exact congrArg y (Fin.ext hv)
    have hle : y v ≤ M := by rw [← hqv]; exact h2 _ (Finset.mem_univ _)
    rw [← hin k hkn, hq]
    refine ⟨hle, fun hlt => lt_of_le_of_ne hle fun e => ?_⟩
    have h5 := h4 ⟨v.val - lo, by omega⟩ (Finset.mem_univ _)
    rw [if_pos (hqv.trans e), hk, hint, hint] at h5
    have hlt' : v.val < lo + k.val := hlt
    have h6 : lo + k.val ≤ lo + (v.val - lo) := by exact_mod_cast h5
    omega

/-- The call's masked score at a column. -/
theorem pay40_at (v : IVec S128x2048 32) (u : FVec Ideal S128x2048 .f32) (x : Vec Ideal S128x2048 .f32) (j : S128x2048.Idx) :
    (k0_pay40 v u x j : EReal) = if IntOp.cmpi .slt (v j) 100000#32 = 1#1 then score (x j) (u j) else ⊥ := by
  have e : (k0_pay40 v u x j : EReal) = if IntOp.cmpi .slt (v j) 100000#32 = 1#1 then
      Ideal.div (x j + (Ideal.ofBits .f32 0x00000000#32 - Ideal.log ((Ideal.ofBits .f32 0x00000000#32
        - Ideal.log (u j + Ideal.ofBits .f32 0x322BCC77#32)) + Ideal.ofBits .f32 0x322BCC77#32))) (Ideal.ofBits .f32 0x40A00000#32)
      else Ideal.ofBits .f32 0xFF800000#32 := rfl
  rw [e, low, Ideal.ofBits_zero_f32, zero_sub, zero_sub]
  rfl

/-- The row maximum of a block's masked scores. -/
theorem pay42_at (v : IVec S128x2048 32) (u : FVec Ideal S128x2048 .f32) (x : Vec Ideal S128x2048 .f32) (r : Fin 128) :
    (k0_pay42 v u x (ix2 r (0 : Fin 1)) : EReal) = Finset.univ.fold max ⊥ fun k : Fin 2048 => (k0_pay40 v u x (ix2 r k) : EReal) := by
  unfold k0_pay42
  generalize k0_pay40 v u x = q
  pointwise
  rw [low]

/-- The least column of a block that attains the row maximum. -/
theorem pay43_at (v : IVec S128x2048 32) (u : FVec Ideal S128x2048 .f32) (x : Vec Ideal S128x2048 .f32) (r : Fin 128) :
    k0_pay43 v u x (ix2 r (0 : Fin 1)) = Finset.univ.fold IntOp.minsi 2147483647#32 fun k : Fin 2048 =>
      if (k0_pay40 v u x (ix2 r k) : EReal) = k0_pay42 v u x (ix2 r (0 : Fin 1)) then v (ix2 r k) else 2147483647#32 := by
  unfold k0_pay43
  generalize k0_pay40 v u x = q
  generalize k0_pay42 v u x = p
  pointwise

/-- The maximum kept after a later block: the block's where it is greater than the one before. -/
theorem pay46_at (v : IVec S128x2048 32) (u : FVec Ideal S128x2048 .f32) (x : Vec Ideal S128x2048 .f32) (b : Vec Ideal S128x1 .f32) (r : Fin 128) :
    (k0_pay46 v u x b b (ix2 r (0 : Fin 1)) : EReal)
      = if (b (ix2 r (0 : Fin 1)) : EReal) < k0_pay42 v u x (ix2 r (0 : Fin 1)) then (k0_pay42 v u x (ix2 r (0 : Fin 1)) : EReal) else b (ix2 r (0 : Fin 1)) := by
  unfold k0_pay46 k0_pay45
  generalize k0_pay42 v u x = p
  pointwise

/-- The column kept after a later block: the block's where its maximum is greater. -/
theorem pay47_at (v : IVec S128x2048 32) (u : FVec Ideal S128x2048 .f32) (x : Vec Ideal S128x2048 .f32) (b : Vec Ideal S128x1 .f32)
    (a : Vec Ideal S128x1 .i32) (r : Fin 128) :
    k0_pay47 v u x b a (ix2 r (0 : Fin 1))
      = if (b (ix2 r (0 : Fin 1)) : EReal) < k0_pay42 v u x (ix2 r (0 : Fin 1)) then k0_pay43 v u x (ix2 r (0 : Fin 1)) else a (ix2 r (0 : Fin 1)) := by
  unfold k0_pay47 k0_pay45
  generalize k0_pay42 v u x = p
  generalize k0_pay43 v u x = q
  pointwise

/-- The maximum kept after the first block is that block's. -/
theorem pay44_at (v : IVec S128x2048 32) (u : FVec Ideal S128x2048 .f32) (x : Vec Ideal S128x2048 .f32) (r : Fin 128) :
    (k0_pay44 v u x (ix2 r (0 : Fin 1)) : EReal) = k0_pay42 v u x (ix2 r (0 : Fin 1)) := by
  unfold k0_pay44
  generalize k0_pay42 v u x = p
  pointwise

end Cert.Proof.KernelValue
-- ==== Proof.KernelBest.lean ====
/-
  The first call's winners over the extended reals are the reference's.
-/
module

public import proofs.«01_k».proof.Proof.KernelValue

@[expose] public section

set_option maxRecDepth 16384

noncomputable section

namespace Cert.Proof.KernelValue

open Cert.KernelIdeal Cert.KernelIdeal.Gen
open Cert.Proof.Argmax
open Cert.Proof.RefValue (sc word)
open Cert.Proof.RealScore
open Idealize.ShloMosaic
open Idealize.ShloMosaic.TcCoe
open Idealize.ShloMosaic.Pipeline (Dat Cfg Window)

variable (m : (ℓ : Loc nD τ sig) → Buf (Elt Ideal) ℓ)

/-- Every block starts at the first row. -/
theorem index_row : ∀ t : Fin cfg0.N, (cfg0.win 0).index t 0 = 0 := by
  show ∀ t : Fin 49, _
  decide +kernel

/-- The block of a point is the point's number along the columns. -/
theorem index_col : ∀ t : Fin cfg0.N, (cfg0.win 0).index t 1 = t.val := by
  show ∀ t : Fin 49, _
  decide +kernel

/-- A fetched block holds the logits of its columns, for the columns the array has. -/
theorem xb_at (c : Dev nD) (t : Fin cfg0.N) (r : Fin 128) (k : Fin 2048) (h : 2048 * t.val + k.val < 100000) :
    xb (V0 m) c t (ix2 r k) = m ((c.tc : Thread nD τ).loc main_arg0) (ix2 r (⟨2048 * t.val + k.val, h⟩ : Fin 100000)) := by
  have hm : (cfg0.win 0).moved (cfg0.grid.coords t) (ix2 r k : S128x2048.Idx) = true := by
    rw [Window.moved_iff]
    intro a
    fin_cases a
    · show r.val < (cfg0.win 0).xsize (cfg0.grid.coords t) 0
      rw [xsize_row]; exact r.isLt
    · show k.val < (cfg0.win 0).xsize (cfg0.grid.coords t) 1
      rw [xsize_col]; have : k.val < 2048 := k.isLt; omega
  unfold xb Window.fill
  rw [dif_pos hm]
  show m ((c.tc : Thread nD τ).loc main_arg0) _ = _
  refine congrArg (m ((c.tc : Thread nD τ).loc main_arg0)) ?_
  funext a
  apply Fin.ext
  refine (congrArg Fin.val (show ((cfg0.win 0).blk t).view.emb _ a = ((cfg0.win 0).rect t).emb _ a from rfl)).trans ?_
  refine ((cfg0.win 0).rect_emb_val t _ a).trans ?_
  match a with
  | ⟨0, _⟩ =>
    show (cfg0.win 0).index t 0 * 128 + r.val = r.val
    rw [index_row]; omega
  | ⟨1, _⟩ =>
    show (cfg0.win 0).index t 1 * 2048 + k.val = 2048 * t.val + k.val
    rw [index_col]; omega

end Cert.Proof.KernelValue
-- ==== Proof.Winner.lean ====
/-
  The first call's winners over the extended reals are the reference's, and so are the one-hot rows.
-/
module

public import proofs.«01_k».proof.Proof.KernelBest

@[expose] public section

set_option maxRecDepth 16384

noncomputable section

namespace Cert.Proof.KernelValue

open Cert.KernelIdeal Cert.KernelIdeal.Gen
open Cert.Proof.Argmax
open Cert.Proof.RefValue (sc word)
open Cert.Proof.RealScore
open Idealize.ShloMosaic
open Idealize.ShloMosaic.TcCoe
open Idealize.ShloMosaic.Pipeline (Dat Cfg Window)

variable (m : (ℓ : Loc nD τ sig) → Buf (Elt Ideal) ℓ)

/-- The logits, as launched. -/
abbrev logits (c : Dev nD) : Cert.Proof.Table.A Ideal := m ((c.tc : Thread nD τ).loc main_arg0)

/-- The counter of a lane's column, as a word. -/
theorem counter (r n : ℕ) : BitVec.ofNat 32 r * 100000#32 + BitVec.ofNat 32 n = BitVec.ofNat 32 (100000 * r + n) := by
  rw [show (100000#32 : BitVec 32) = BitVec.ofNat 32 100000 from rfl, ← BitVec.ofNat_mul, ← BitVec.ofNat_add, Nat.mul_comm r]

/-- The uniform draw of a lane is the reference's for the lane's column. -/
theorem draw_at (t : Fin cfg0.N) (r : Fin 128) (k : Fin 2048) :
    (unif Ideal (grid0.coords t) (ix2 r k) : EReal)
      = fraction ((word r.val (2048 * t.val + k.val)).1 ^^^ (word r.val (2048 * t.val + k.val)).2) := by
  refine (KernelWords.unif_at (F := Ideal) (grid0.coords t) (ix2 r k)).trans ?_
  refine (congrArg (fun w => KernelWords.frac (F := Ideal) (Cert.Proof.Words.gen 0#32 42#32 0#32 w)) (?_ : _ = BitVec.ofNat 32 (100000 * r.val + (2048 * t.val + k.val)))).trans ?_
  · rw [cols_at]
    exact counter r.val _
  · unfold word
    generalize Cert.Proof.Words.gen 0#32 42#32 0#32 _ = p
    unfold KernelWords.frac fraction
    rfl

/-- The block's masked score at a lane: the reference's score where the lane's column exists, the lower end elsewhere. -/
theorem masked_at (c : Dev nD) (t : Fin cfg0.N) (r : Fin 128) (k : Fin 2048) :
    (∀ h : 2048 * t.val + k.val < 100000, (k0_pay40 (cols (grid0.coords t)) (unif Ideal (grid0.coords t)) (xb (V0 m) c t) (ix2 r k) : EReal)
        = sc (logits m c) r ⟨2048 * t.val + k.val, h⟩)
    ∧ (¬ 2048 * t.val + k.val < 100000 →
      (k0_pay40 (cols (grid0.coords t)) (unif Ideal (grid0.coords t)) (xb (V0 m) c t) (ix2 r k) : EReal) = ⊥) := by
  rw [pay40_at]
  refine ⟨fun h => ?_, fun h => if_neg fun hh => h ((cols_lt t (ix2 r k)).mp hh)⟩
  rw [if_pos ((cols_lt t (ix2 r k)).mpr h), xb_at m c t r k h, draw_at]
  unfold sc
  with_reducible rfl

section
variable (c : Dev nD) (hx : ∀ i, ∃ a : ℝ, (logits m c i : EReal) = ((a : ℝ) : EReal))
include hx

/-- Every score is above the lower end. -/
theorem above (r : Fin 128) (v : Fin 100000) : ⊥ < sc (logits m c) r v := by
  obtain ⟨z, hz⟩ := Cert.Proof.RefValue.sc_real (logits m c) r v (hx _)
  rw [hz]; exact EReal.bot_lt_coe z

/-- A block's maximum and column are the best of the block's columns. -/
theorem block_at (t : Fin cfg0.N) (r : Fin 128) :
    Best (sc (logits m c) r) (2048 * t.val) (2048 * t.val + 2048)
      (k0_pay42 (cols (grid0.coords t)) (unif Ideal (grid0.coords t)) (xb (V0 m) c t) (ix2 r (0 : Fin 1)))
      (k0_pay43 (cols (grid0.coords t)) (unif Ideal (grid0.coords t)) (xb (V0 m) c t) (ix2 r (0 : Fin 1))) := by
  have ht : t.val < 49 := t.isLt
  rw [pay43_at, pay42_at]
  exact block_best (by norm_num) (sc (logits m c) r) (above m c hx r) (2048 * t.val) 2048 (by omega) (by norm_num)
    (fun k => k0_pay40 (cols (grid0.coords t)) (unif Ideal (grid0.coords t)) (xb (V0 m) c t) (ix2 r k))
    (fun k => cols (grid0.coords t) (ix2 r k)) (fun k => cols_at t (ix2 r k))
    (fun k h => (masked_at m c t r k).1 h) (fun k h => (masked_at m c t r k).2 h) (by omega)

/-- After point `n` the running maximum and column are the best of the columns so far. -/
theorem best_at (r : Fin 128) : ∀ n : ℕ, n < 49 → Best (sc (logits m c) r) 0 (2048 * n + 2048)
    ((best (V0 m) c n).1 (ix2 r (0 : Fin 1))) ((best (V0 m) c n).2 (ix2 r (0 : Fin 1)))
  | 0, _ => by
    have hv : (ptN 0).val = 0 := rfl
    have e := best_first (V0 m) c (ptN 0) hv
    have hb := block_at m c hx (ptN 0) r
    rw [hv] at e hb
    rw [e]
    dsimp only
    rw [pay44_at]
    exact hb
  | n + 1, hn => by
    have ih := best_at r n (by omega)
    have hb := block_at m c hx (ptN (n + 1)) r
    have hv : (ptN (n + 1)).val = n + 1 := Nat.mod_eq_of_lt hn
    have e := best_later (V0 m) c (ptN (n + 1)) (by omega)
    rw [hv, Nat.mul_succ] at hb
    rw [hv, Nat.add_sub_cancel] at e
    have hm := ih.merge (by omega) (by omega) hb
    rw [e]
    dsimp only
    rw [pay46_at, pay47_at]
    exact hm

/-- The winner the first call leaves for a row is the reference's. -/
theorem winner_eq (r : Fin 128) :
    Run.winner m c (ix2 r (0 : Fin 1)) = Cert.Proof.Table.argT (Cert.Proof.Table.sampleT (logits m c)) (ix1 r) := by
  obtain ⟨v, -, -, -, hv, hf⟩ := best_at m c hx r 48 (by norm_num)
  obtain ⟨w, hw, hg⟩ := Cert.Proof.RefValue.sample_first (logits m c) hx r
  have e : v = w := Cert.Proof.Pick.First.unique (y := sc (logits m c) r) (fun v' => hf v' (Nat.zero_le _) (by have := v'.isLt; omega)) hg
  exact hv.trans ((congrArg (fun u : Fin 100000 => BitVec.ofNat 32 u.val) e).trans hw.symm)

end

end Cert.Proof.KernelValue
-- ==== Proof.PreValue.lean ====
/-
  The precondition's two answers: which logits are finite, and which rows' winners lie below column 99968.
-/
module

public import proofs.«01_k».proof.Proof.Gen.Pre_winner_in_whole_tile
public import proofs.«01_k».proof.Proof.Spec

@[expose] public section

set_option maxRecDepth 16384

noncomputable section

namespace Cert.Proof.PreValue

open Cert.Pre_winner_in_whole_tile
open Cert.Proof.Table hiding S T
open Cert.Proof.Table (S T)
open Idealize.ShloMosaic

variable {F : FTy → Type} [FloatOps F]

section
variable (a b v : S)

/-- What is left of the generator after each of its printed parts' first values, from the pair of tables it has then. -/
def e8 (p : T × T) : T × T := injectT v a 5#32 (turnT 6#32 26#32 (turnT 26#32 6#32 (halfT 15#32 17#32 p)))

/-- The pairs of tables from each part of the generator to the end, part by part. -/
def e7 (p : T × T) : T × T := e8 a v (openT (turnT 13#32 19#32 (injectT b v 4#32 (halfT 24#32 8#32 p))))
def e6 (p : T × T) : T × T := e7 a b v (openT (turnT 16#32 16#32 (turnT 29#32 3#32 p)))
def e5 (p : T × T) : T × T := e6 a b v (turnT 17#32 15#32 (injectT a b 3#32 (turnT 6#32 26#32 p)))
def e4 (p : T × T) : T × T := e5 a b v (turnT 26#32 6#32 (turnT 15#32 17#32 (halfT 13#32 19#32 p)))
def e3 (p : T × T) : T × T := e4 a b v (openT (injectT v a 2#32 (turnT 24#32 8#32 (halfT 16#32 16#32 p))))
def e2 (p : T × T) : T × T := e3 a b v (openT (turnT 29#32 3#32 (turnT 17#32 15#32 p)))
def e1 (p : T × T) : T × T := e2 a b v (injectT b v 1#32 (turnT 6#32 26#32 (turnT 26#32 6#32 p)))

/-- The last part of the generator, on tables. -/
theorem part8_eq (x y : T) : fn_threefry2x32_part8 (F := F) a v y x (Host.shli y (lit 15#32)) = e8 a v (x, y) := rfl

/-- From the seventh part on. -/
theorem part7_eq (x y : T) : fn_threefry2x32_part7 (F := F) a b v y x (Host.shli y (lit 24#32)) (constantI S_ 32 8#32)
    = e7 a b v (x, y) :=
  (part8_eq (F := F) a v _ _).trans rfl

/-- From the sixth part on. -/
theorem part6_eq (x y : T) : fn_threefry2x32_part6 (F := F) a b v x y = e6 a b v (x, xori x y) :=
  (part7_eq (F := F) a b v _ _).trans rfl

/-- From the fifth part on. -/
theorem part5_eq (x y : T) : fn_threefry2x32_part5 (F := F) a b v x y = e5 a b v (x, y) :=
  (part6_eq (F := F) a b v _ _).trans rfl

/-- From the fourth part on. -/
theorem part4_eq (x y : T) : fn_threefry2x32_part4 (F := F) a b v y x (lit 13#32) = e4 a b v (x, y) :=
  (part5_eq (F := F) a b v _ _).trans rfl

/-- From the third part on. -/
theorem part3_eq (x y : T) : fn_threefry2x32_part3 (F := F) a b v y x (Host.shli y (lit 16#32)) = e3 a b v (x, y) :=
  (part4_eq (F := F) a b v _ _).trans rfl

/-- From the second part on. -/
theorem part2_eq (x y : T) : fn_threefry2x32_part2 (F := F) a b v x y (constantI S_ 32 1#32) = e2 a b v (x, addi y (lit 1#32)) :=
  (part3_eq (F := F) a b v _ _).trans rfl

/-- The whole generator, on tables. -/
theorem part1_eq (x y : T) : fn_threefry2x32_part1 (F := F) a b v x y = e1 a b v (x, xori x y) :=
  (part2_eq (F := F) a b v _ _).trans rfl

/-- The precondition's generator is the generator on tables. -/
theorem threefry_eq (x y : T) : fn_threefry2x32 (F := F) a b x y = genT a b x y :=
  (part1_eq (F := F) a b _ _ _).trans rfl

end

/-- The precondition's uniform numbers are the seed's. -/
theorem uniform_eq : fn_uniform (F := F) key (constant S_ .f32 0x00000000#32) (constant S_ .f32 0x3F800000#32) = noiseT := by
  unfold fn_uniform noiseT
  simp only [threefry_eq]
  rfl

/-- The precondition's index of each row's largest entry. -/
theorem argmax_eq (y : A F) : fn_argmax (F := F) y = argT y := rfl

/-- The precondition's answers on some logits. -/
theorem fn_eq (x : A F) : fn (F := F) x
    = (cmpf .olt (Host.absf x) (fl 0x7F800000#32), cmpi .slt (argT (sampleT x))
      (broadcastInDim S128 ![] Cert.ReferenceIdeal.Facts₀.bcast_S_S128 (constantI S_ 32 99968#32))) := by
  have h : fn (F := F) x = (cmpf .olt (Host.absf x) (fl 0x7F800000#32),
      cmpi .slt (fn_argmax (F := F) (softT (scoreT x (fn_uniform (F := F) key (constant S_ .f32 0x00000000#32)
        (constant S_ .f32 0x3F800000#32)))))
        (broadcastInDim S128 ![] Cert.ReferenceIdeal.Facts₀.bcast_S_S128 (constantI S_ 32 99968#32))) := rfl
  rw [h, uniform_eq, argmax_eq]
  rfl

end Cert.Proof.PreValue
-- ==== Proof.Final.lean ====
/-
  What the precondition gives, and the two programs' one-hot rows over the extended reals.
-/
module

public import proofs.«01_k».proof.Proof.Winner
public import proofs.«01_k».proof.Proof.PreValue

@[expose] public section

set_option maxRecDepth 16384

noncomputable section

namespace Cert.Proof.KernelValue

open Cert.KernelIdeal Cert.KernelIdeal.Gen
open Cert.Proof.Argmax
open Cert.Proof.RefValue (sc word)
open Cert.Proof.RealScore
open Cert.Proof.Table (A argT sampleT hotT resultT)
open Idealize.ShloMosaic
open Idealize.ShloMosaic.TcCoe
open Idealize.ShloMosaic.Pipeline (Dat Cfg Window)

/-- The precondition's first answer: an entry's absolute value is below the upper end, so the entry is a number. -/
theorem real_of_abs (a : EReal) (h : Ideal.cmp .olt (max a (-a)) (Ideal.ofBits .f32 0x7F800000#32) = 1#1) :
    ∃ b : ℝ, a = ((b : ℝ) : EReal) := by
  rw [high] at h
  have hlt : max a (-a) < ⊤ := by
    by_contra hh
    have e : Ideal.cmp .olt (max a (-a)) ⊤ = 0#1 := by
      show BitVec.ofBool (decide (max a (-a) < ⊤)) = 0#1
      rw [decide_eq_false hh]; rfl
    rw [e] at h
    exact absurd h (by decide)
  have h1 : a < ⊤ := (le_max_left _ _).trans_lt hlt
  have h2 : a ≠ ⊥ := fun e => by
    have : -a < ⊤ := (le_max_right _ _).trans_lt hlt
    rw [e, EReal.neg_bot] at this
    exact lt_irrefl _ this
  exact ⟨a.toReal, (EReal.coe_toReal h1.ne h2).symm⟩

/-- Finite logits under the precondition. -/
theorem real_of_pre (x : A Ideal) (h : (Cert.Pre_winner_in_whole_tile.fn (F := Ideal) x).1 = fun _ => 1#1) (i : S128x100000.Idx) :
    ∃ a : ℝ, (x i : EReal) = ((a : ℝ) : EReal) := by
  rw [PreValue.fn_eq] at h
  exact real_of_abs (x i) (congrFun h i)

/-- Winners below the last whole tile's end under the precondition. -/
theorem below_of_pre (x : A Ideal) (h : (Cert.Pre_winner_in_whole_tile.fn (F := Ideal) x).2 = fun _ => 1#1) (r : Fin 128) :
    IntOp.cmpi .slt (argT (sampleT x) (ix1 r)) 99968#32 = 1#1 := by
  rw [PreValue.fn_eq] at h
  have e := congrFun h (ix1 r)
  generalize argT (sampleT x) = a at e ⊢
  exact e

/-- A small word below the end as a signed word is below it as a number. -/
theorem below (v : ℕ) (hv : v < 100000) (h : IntOp.cmpi .slt (BitVec.ofNat 32 v) 99968#32 = 1#1) : (BitVec.ofNat 32 v).toNat < 99968 := by
  rw [IntOp.cmpi_slt, BitVec.toInt_eq_toNat_of_lt (by rw [BitVec.toNat_ofNat]; omega)] at h
  have e : (99968#32 : BitVec 32).toInt = 99968 := by decide
  omega

/-- The indicator as the kernel converts it and as the reference does. -/
theorem indicator (a b : BitVec 32) :
    (FloatOps.sitofp (F := Ideal) .f32 ((IntOp.cmpi .eq a b).setWidth 32) : EReal) = FloatOps.uitofp (F := Ideal) .f32 (IntOp.cmpi .eq b a) := by
  show ((((IntOp.cmpi .eq a b).setWidth 32).toInt : ℝ) : EReal) = (((IntOp.cmpi .eq b a).toNat : ℝ) : EReal)
  by_cases h : a = b
  · subst h
    have e : IntOp.cmpi .eq a a = 1#1 := IntOp.cmpi_eq.mpr rfl
    rw [e]; norm_num
  · have e1 : IntOp.cmpi .eq a b = 0#1 := by
      show BitVec.ofBool (decide (a = b)) = 0#1
      rw [decide_eq_false h]; rfl
    have e2 : IntOp.cmpi .eq b a = 0#1 := by
      show BitVec.ofBool (decide (b = a)) = 0#1
      rw [decide_eq_false fun e => h e.symm]; rfl
    rw [e1, e2]; norm_num

/-- An entry of the reference's one-hot rows. -/
theorem hotT_at (a : IVec S128 32) (r : Fin 128) (v : Fin 100000) :
    (hotT (F := Ideal) a (ix2 r v) : EReal) = FloatOps.uitofp (F := Ideal) .f32 (IntOp.cmpi .eq (a (ix1 r)) (BitVec.ofNat 32 v.val)) := by
  unfold hotT
  pointwise

section
variable (m : (ℓ : Loc nD τ sig) → Buf (Elt Ideal) ℓ) (h : ∀ c : Dev nD,
  (Cert.Pre_winner_in_whole_tile.fn (F := Ideal) (logits m c)).1 = (fun _ => 1#1)
    ∧ (Cert.Pre_winner_in_whole_tile.fn (F := Ideal) (logits m c)).2 = (fun _ => 1#1))
include h

/-- Under the precondition every winner lies in a whole tile. -/
theorem winner_below (c : Dev nD) (r : Fin 128) : (Run.winner m c (ix2 r (0 : Fin 1))).toNat < 99968 := by
  have hx := real_of_pre (logits m c) (h c).1
  obtain ⟨w, hw, -⟩ := Cert.Proof.RefValue.sample_first (logits m c) hx r
  have hb := below_of_pre (logits m c) (h c).2 r
  rw [winner_eq m c hx r]
  rw [hw] at hb ⊢
  exact below w.val w.isLt hb

/-- Under the precondition the kernel's one-hot rows are the reference's result. -/
theorem rows_eq (c : Dev nD) : Scatter.hotOf (F := Ideal) c (fun t => Run.winner m c (ix2 t (0 : Fin 1))) = (resultT (sampleT (logits m c)) : A Ideal) := by
  have hx := real_of_pre (logits m c) (h c).1
  funext i
  refine Eq.trans ?_ (Cert.Proof.RefValue.resultT_at (logits m c) hx i).symm
  have hi : i = ix2 (i 0) (i 1) := eq_ix2 i
  have hv := hotT_at (argT (sampleT (logits m c))) (i 0) (i 1)
  have hw := winner_eq m c hx (i 0)
  generalize argT (sampleT (logits m c)) = a at hv hw ⊢
  refine Eq.trans ?_ ((congrArg (hotT (F := Ideal) a) hi).trans hv).symm
  show (FloatOps.sitofp (F := Ideal) .f32 ((IntOp.cmpi .eq (BitVec.ofNat 32 (i 1).val) (Run.winner m c (ix2 (i 0) (0 : Fin 1)))).setWidth 32) : EReal) = _
  rw [hw]
  exact indicator _ _

/-- Under the precondition the kernel runs, ends with the reference's result, leaves its argument and every counter at zero. -/
theorem kernel_result (ρ : Dev nD → PrngReg) :
    θ_run (defs (F := Ideal)) (onTc (τ := τ) (main (F := Ideal))) ⟨m, fun _ => 0, ρ⟩ (fun r => (∀ c : Dev nD,
      r.2.mem ((c.tc : Thread nD τ).loc main_v0) = (resultT (sampleT (logits m c)) : A Ideal)
      ∧ r.2.mem ((c.tc : Thread nD τ).loc main_arg0) = m ((c.tc : Thread nD τ).loc main_arg0))
      ∧ r.2.sem = fun _ => 0) := by
  have hz : (FloatOps.ofBits .f32 0#32 : Ideal .f32) = FloatOps.sitofp .f32 (0#32) := by
    show Ideal.ofBits .f32 0x00000000#32 = (((0#32 : BitVec 32).toInt : ℝ) : EReal)
    rw [Ideal.ofBits_zero_f32]; norm_num
  refine θ_run_mono (Run.run_kernel (F := Ideal) m (winner_below m h) hz ρ) (fun r hr => ?_)
  exact ⟨fun c => ⟨(hr.1 c).1.trans (rows_eq m h c), (hr.1 c).2⟩, hr.2⟩

end

end Cert.Proof.KernelValue
-- ==== Proof.lean ====
/-
  The claims of the one-hot sampler: over the extended reals, with finite logits whose winners lie in whole tiles, the kernel
  and the reference run to quiescence, leave their argument, and end with the same one-hot rows.
-/
module

public import proofs.«01_k».proof.Defs
public import proofs.«01_k».proof.Proof.Gen.KernelIdeal
public import proofs.«01_k».proof.Proof.Gen.ReferenceIdeal
public import proofs.«01_k».proof.Proof.Gen.Pre_winner_in_whole_tile
public import proofs.«01_k».proof.Proof.RefEnd
public import proofs.«01_k».proof.Proof.Final

@[expose] public section

noncomputable section

namespace Cert.Proof

open Idealize.ShloMosaic Idealize.ShloMosaic.TcCoe

/-- The kernel terminates, leaves the logits and ends quiescent. -/
theorem frame_kernel : quiescent_KernelIdeal := fun m g h =>
  θ_run_mono (KernelValue.kernel_result m h g) fun _ hr => ⟨fun c => (hr.1 c).2, hr.2⟩

/-- The reference terminates, leaves the logits and ends quiescent. -/
theorem frame_reference : quiescent_ReferenceIdeal := fun m g _ =>
  θ_run_mono (RefRun.run_reference (F := Ideal) m g) fun _ hr => ⟨fun c => (hr.1 c).2, hr.2⟩

/-- The same under the kernel's precondition. -/
theorem frame_reference_pre : quiescent_ReferenceIdeal_pre_winner_in_whole_tile := fun m g _ => frame_reference m g trivial

/-- From equal logits under the precondition the kernel and the reference end with equal results. -/
theorem equal_results : algebraic_KernelIdeal_ReferenceIdeal := fun m g m' g' h e =>
  ⟨fun c => (Table.resultT (Table.sampleT (KernelValue.logits m c)) : Table.A Ideal),
    θ_run_mono (KernelValue.kernel_result m h g) fun _ hr => hr.1,
    θ_run_mono (RefRun.run_reference (F := Ideal) m' g') fun _ hr c =>
      ⟨(hr.1 c).1.trans (congrArg (fun x : Table.A Ideal => (Table.resultT (Table.sampleT x) : Table.A Ideal)) (e c)), (hr.1 c).2⟩⟩

/-- The claims, with the facts the printed programs state. -/
theorem claim : Cert.Claim :=
  ⟨Cert.KernelIdeal.Gen.facts, Cert.ReferenceIdeal.Gen.facts, Cert.Pre_winner_in_whole_tile.Gen.facts,
    frame_kernel, frame_reference, frame_reference_pre, equal_results⟩

end Cert.Proof
